-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "inv_cols" .f32 0x3A2AAAAB#32 ((1536⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1536, 768]⟩ ⟨2, ![3072, 1536]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1536, 1]⟩ ⟨2, ![3072, 1]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S1536x1 : Shape := ⟨2, ![1536, 1]⟩
abbrev S12x128 : Shape := ⟨2, ![12, 128]⟩
abbrev S16x128 : Shape := ⟨2, ![16, 128]⟩
abbrev S2 : Shape := ⟨1, ![2]⟩
abbrev S_ : Shape := ⟨0, ![]⟩
abbrev S768x768 : Shape := ⟨2, ![768, 768]⟩
abbrev S768 : Shape := ⟨1, ![768]⟩
abbrev S768x1 : Shape := ⟨2, ![768, 1]⟩
abbrev S6x128 : Shape := ⟨2, ![6, 128]⟩
abbrev S1 : Shape := ⟨1, ![1]⟩
abbrev S128x6 : Shape := ⟨2, ![128, 6]⟩
abbrev S128x1 : Shape := ⟨2, ![128, 1]⟩

abbrev nBuf : Space → Nat
  | .hbm => 2
  | .vmem => 4
  | .smem => 0
  | _ => 0

abbrev bufTy : (tb : Table) → Fin (tcTables nBuf tb) → BufTy
  | .hbm, ⟨0, _⟩ => ⟨S1536x768, .bf16⟩
  | .hbm, ⟨1, _⟩ => ⟨S1536x1, .f32⟩
  | .local _ .vmem, ⟨0, _⟩ => ⟨S1536x768, .bf16⟩
  | .local _ .vmem, ⟨1, _⟩ => ⟨S1536x1, .f32⟩
  | .local _ .vmem, ⟨2, _⟩ => ⟨S12x128, .f32⟩
  | .local _ .vmem, ⟨3, _⟩ => ⟨S16x128, .f32⟩
  | _, _ => ⟨S1536x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_14 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_13 : BitVec 32 := 2#32
  let v23 : BitVec 32 := Scalar.muli v2 c2_i32_13
  let v24 : BitVec 32 := Scalar.addi c0_i32_14 v23
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_15 : BitVec 32 := 1#32
  let v25 : BitVec 32 := Scalar.muli v6 c1_i32_15
  let v26 : BitVec 32 := Scalar.addi v24 v25
  v26.toNat
def k0_dev3 (d0 : Dev nD) : Nat :=
  let c0_i32_27 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_26 : BitVec 32 := 2#32
  let v44 : BitVec 32 := Scalar.muli v2 c2_i32_26
  let v45 : BitVec 32 := Scalar.addi c0_i32_27 v44
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_28 : BitVec 32 := 1#32
  let v46 : BitVec 32 := Scalar.muli v6 c1_i32_28
  let v47 : BitVec 32 := Scalar.addi v45 v46
  v47.toNat
abbrev stage0_0 : Fin 1 → Memref sig .tc .vmem S1536x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelIdeal.lean ====
variable {F : FTy → Type} [FloatOps F] [Named F]
def κ : String → Option EReal := fun
  | "inv_cols" => some ((1536⁻¹ : ℝ) : EReal)
  | _ => none
-- ==== ReferenceIdeal.lean ====
abbrev S3072x1536 : Shape := ⟨2, ![3072, 1536]⟩
abbrev S_ : Shape := ⟨0, ![]⟩
abbrev S3072 : Shape := ⟨1, ![3072]⟩
abbrev S3072x1 : Shape := ⟨2, ![3072, 1]⟩

abbrev nBuf : Space → Nat
  | .hbm => 10
  | .vmem => 0
  | .smem => 0
  | _ => 0

abbrev bufTy : (tb : Table) → Fin (tcTables nBuf tb) → BufTy
  | .hbm, ⟨0, _⟩ => ⟨S3072x1536, .bf16⟩
  | .hbm, ⟨1, _⟩ => ⟨S3072x1536, .f32⟩
  | .hbm, ⟨2, _⟩ => ⟨S_, .f32⟩
  | .hbm, ⟨3, _⟩ => ⟨S3072, .f32⟩
  | .hbm, ⟨4, _⟩ => ⟨S3072x1, .f32⟩
  | .hbm, ⟨5, _⟩ => ⟨S_, .f32⟩
  | .hbm, ⟨6, _⟩ => ⟨S3072x1, .f32⟩
  | .hbm, ⟨7, _⟩ => ⟨S3072x1, .f32⟩
  | .hbm, ⟨8, _⟩ => ⟨S3072x1, .bf16⟩
  | .hbm, ⟨9, _⟩ => ⟨S3072x1, .f32⟩
  | _, _ => ⟨S3072x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Run.Protocol.lean ====
/-
# The exchange: cells, schedule, debts and levels

Four devices stand on a 2×2 mesh; the two of one mesh row hold the two column halves of the same rows of `x` and are
each other's `peer`. The kernel on a device sums its half of every row, scaled, in two chunks of 6×128 sums, sends
each chunk to its peer, and adds what the peer sent. Five semaphore cells of a device take part:

* cell 0, the barrier: the peer signals it once. The signal hands over the peer's two landing areas;
* cells 1 and 2, send of chunk 0 and 1: the device's own transfer pays them when the chunk has been read. They hand
  back half of the chunk's ownership (the kernel reads the chunk while it is being sent, so only half goes in);
* cells 3 and 4, receipt of chunk 0 and 1: the peer's transfer pays them. They hand over the landing area, now
  holding the peer's sums.

Every cell is paid once and waited for once.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.MemrefSat
public import Idealize.ShloMosaic.Lib.Tactic

@[expose] public section

noncomputable section

namespace Cert.MeanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resources: the pipeline's rounds and the exchange's rounds, one duty per round -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore counter zero, any generator registers. -/
def s₀ : MemSt nD τ sig (Elt F) := ⟨m, fun _ => 0, ρ⟩

/-! ## The peer -/

set_option backward.proofsInPublic true in
/-- The other device of the same mesh row. -/
def peer (c : Dev nD) : Dev nD := ⟨(2 * (c.val / 2) + 1) - (c.val % 2), by revert c; decide⟩

theorem peer_peer (c : Dev nD) : peer (peer c) = c := by revert c; decide

/-- The three device numbers the body computes all name the peer. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)

/-- Swapping every device with its peer. -/
def swap : Dev nD ≃ Dev nD := ⟨peer, peer, peer_peer, peer_peer⟩

/-! ## Memrefs and cells -/

abbrev xM : Memref sig .tc .vmem S1536x768 .bf16 := Memref.whole cc0_stg0_0
abbrev oM : Memref sig .tc .vmem S1536x1 .f32 := Memref.whole cc0_stg1_0

/-- The two chunks of the send buffer and the two of the landing buffer: rows 0–5 and rows 6–11. -/
abbrev sRect0 : Rect S12x128 := Rect.unit (s := S12x128) ![0, 0] S6x128.size inb_S12x128_S6x128_0_0
abbrev sRect1 : Rect S12x128 := Rect.unit (s := S12x128) ![6, 0] S6x128.size inb_S12x128_S6x128_6_0
abbrev rRect0 : Rect S16x128 := Rect.unit (s := S16x128) ![0, 0] S6x128.size inb_S16x128_S6x128_0_0
abbrev rRect1 : Rect S16x128 := Rect.unit (s := S16x128) ![6, 0] S6x128.size inb_S16x128_S6x128_6_0
abbrev sM0 : Memref sig .tc .vmem S6x128 .f32 := (Memref.whole cc0_scratch0).slice sRect0 (fun _ => rfl)
abbrev sM1 : Memref sig .tc .vmem S6x128 .f32 := (Memref.whole cc0_scratch0).slice sRect1 (fun _ => rfl)
abbrev rM0 : Memref sig .tc .vmem S6x128 .f32 := (Memref.whole cc0_scratch1).slice rRect0 (fun _ => rfl)
abbrev rM1 : Memref sig .tc .vmem S6x128 .f32 := (Memref.whole cc0_scratch1).slice rRect1 (fun _ => rfl)

abbrev barS : Sem sig := (SemArray.scalar (sig.barrier 0 rfl) : Sems sig S_).sem
abbrev sendS0 : DmaSem sig := ((cc0_scratch2.slice (Rect.unit (s := S2) ![0] S1.size inb_S2_S1_0)).squeeze S_ squeezes_S1_S_ : DmaSems sig S_).sem
abbrev sendS1 : DmaSem sig := ((cc0_scratch2.slice (Rect.unit (s := S2) ![1] S1.size inb_S2_S1_1)).squeeze S_ squeezes_S1_S_ : DmaSems sig S_).sem
abbrev recvS0 : DmaSem sig := ((cc0_scratch3.slice (Rect.unit (s := S2) ![0] S1.size inb_S2_S1_0)).squeeze S_ squeezes_S1_S_ : DmaSems sig S_).sem
abbrev recvS1 : DmaSem sig := ((cc0_scratch3.slice (Rect.unit (s := S2) ![1] S1.size inb_S2_S1_1)).squeeze S_ squeezes_S1_S_ : DmaSems sig S_).sem

/-- The five semaphores, and the cell of each on each device. -/
abbrev csem : Fin 5 → SemLoc sig
  | 0 => .reg barS | 1 => .dma sendS0 | 2 => .dma sendS1 | 3 => .dma recvS0 | 4 => .dma recvS1
abbrev kcell (ck : Dev nD × Fin 5) : GSem nD τ sig := ((ck.1 : Thread nD τ), csem ck.2)

theorem csem_injective : Function.Injective csem := by decide

theorem kcell_injective : Function.Injective kcell := by
  rintro ⟨c, k⟩ ⟨c', k'⟩ h
  have hk : k = k' := csem_injective (congrArg Prod.snd h)
  have hc : c = c' := congrArg (fun g : GSem nD τ sig => g.1.1) h
  rw [hk, hc]

/-- Which of the five a semaphore is, if any. -/
def kind (sm : SemLoc sig) : Option (Fin 5) := (List.finRange 5).find? (fun k => decide (csem k = sm))

theorem kind_csem : ∀ k : Fin 5, kind (csem k) = some k := by decide

/-- What one chunk's transfer credits: the same for the four chunk areas. -/
abbrev N : ℕ := (rM0 : Memref sig .tc .vmem S6x128 .f32).view.dmaCredit
theorem N_pos : 0 < N := View.dmaCredit_pos _ (by decide)
theorem credit_r1 : (rM1 : Memref sig .tc .vmem S6x128 .f32).view.dmaCredit = N := rfl
theorem credit_s0 : (sM0 : Memref sig .tc .vmem S6x128 .f32).view.dmaCredit = N := rfl
theorem credit_s1 : (sM1 : Memref sig .tc .vmem S6x128 .f32).view.dmaCredit = N := rfl

/-! ## Contents -/

/-- Device `c`'s block of `x` as staged for the body. -/
def xstg (c : Dev nD) : (cc0_stg0_0 : Ref sig .tc).ty.Contents (Elt F) :=
  (win0_0.blk (0 : Fin 1)).view.read (Elt F) ((s₀ m ρ).mem ((c : Thread nD τ).loc main_arg0))

abbrev xRect0 : Rect S1536x768 := Rect.unit (s := S1536x768) ![0, 0] S768x768.size inb_S1536x768_S768x768_0_0
abbrev xRect1 : Rect S1536x768 := Rect.unit (s := S1536x768) ![768, 0] S768x768.size inb_S1536x768_S768x768_768_0

/-- The two chunks of scaled row sums device `c` computes of its block. -/
def part0 (c : Dev nD) : Vec F S6x128 .f32 :=
  k0_pay1 ((xM : Memref sig .tc .vmem S1536x768 .bf16).view.readAt (Elt F) xRect0.toLoadRect (xstg m ρ c))
def part1 (c : Dev nD) : Vec F S6x128 .f32 :=
  k0_pay2 ((xM : Memref sig .tc .vmem S1536x768 .bf16).view.readAt (Elt F) xRect1.toLoadRect (xstg m ρ c))

/-- Device `c` holds a chunk area whole, at some contents. -/
def free (c : Dev nD) (a : Memref sig .tc .vmem S6x128 .f32) : sProp 𝕄 := iprop(∃ X, owns (c : Thread nD τ) a fullShare X)

/-! ## The schedule -/

/-- What paying a cell of device `c` hands `c`. -/
def pay (c : Dev nD) : Option (Fin 5) → sProp 𝕄
  | some 0 => iprop(free (peer c) rM0 ∗ free (peer c) rM1 ∗ reached ER (kcell (peer c, 3)) 0 ∗ reached ER (kcell (peer c, 4)) 0)
  | some 1 => owns (c : Thread nD τ) sM0 fullShare.left (part0 m ρ c)
  | some 2 => owns (c : Thread nD τ) sM1 fullShare.left (part1 m ρ c)
  | some 3 => owns (c : Thread nD τ) rM0 fullShare (part0 m ρ (peer c))
  | some 4 => owns (c : Thread nD τ) rM1 fullShare (part1 m ρ (peer c))
  | none => iprop(emp)

instance pay_storable (c : Dev nD) (o : Option (Fin 5)) : BI.Storable (upEmb : UEmb _ 𝕄) (pay m ρ c o) := by
  rcases o with _ | k
  · unfold pay; infer_instance
  · fin_cases k <;> (unfold pay free; infer_instance)

/-- How much a cell is paid: a unit for the barrier, a chunk's credit for the transfers. -/
def amt (o : Option (Fin 5)) : ℕ := if o = some 0 then 1 else N

/-- One duty, in round 0, at each of the five cells of each device. -/
def rd : Rounds.Schedule (GSem nD τ sig) Unit 𝕄 where
  duties g r := if r = 0 ∧ g.1.2 = .tc ∧ (kind g.2).isSome then {()} else ∅
  unitless _ := False
  amount g _ _ := amt (kind g.2)
  payload g _ _ := pay m ρ g.1.1 (kind g.2)
  amount_pos g _ _ _ := by
    unfold amt; split
    · exact Nat.one_pos
    · exact N_pos

instance rd_payload_storable (g : GSem nD τ sig) (r : ℕ) (d : Unit) :
    BI.Storable (upEmb : UEmb _ 𝕄) ((rd m ρ).payload g r d) := pay_storable m ρ g.1.1 (kind g.2)

theorem duties_cell (c : Dev nD) (k : Fin 5) : (rd m ρ).duties (kcell (c, k)) 0 = {()} :=
  if_pos ⟨rfl, rfl, by show (kind (csem k)).isSome = true; rw [kind_csem]; rfl⟩

theorem duties_later (g : GSem nD τ sig) : ∀ r, 1 ≤ r → (rd m ρ).duties g r = ∅ :=
  fun r hr => if_neg fun h => by omega

theorem amount_cell (c : Dev nD) (k : Fin 5) (r : ℕ) (d : Unit) : (rd m ρ).amount (kcell (c, k)) r d = amt (some k) := by
  show amt (kind (csem k)) = _; rw [kind_csem]

theorem payload_cell (c : Dev nD) (k : Fin 5) (r : ℕ) (d : Unit) : (rd m ρ).payload (kcell (c, k)) r d = pay m ρ c (some k) := by
  show pay m ρ c (kind (csem k)) = _; rw [kind_csem]

theorem expect_cell (c : Dev nD) (k : Fin 5) : (rd m ρ).expect (kcell (c, k)) 0 = amt (some k) := by
  unfold Schedule.expect Schedule.amountOf
  rw [duties_cell, Finset.sum_singleton, amount_cell]

/-- Nothing of round 0 taken yet, what is left of it is the cell's one payload. -/
theorem rest_cell (c : Dev nD) (k : Fin 5) :
    bigSep ((rd m ρ).duties (kcell (c, k)) 0 \ ∅) (fun d => (rd m ρ).payload (kcell (c, k)) 0 d) = pay m ρ c (some k) := by
  rw [Finset.sdiff_empty, duties_cell, bigSep_singleton, payload_cell]

/-! ## Debts and levels -/

/-- What device `c` still owes after its signal: the two transfers to its peer. -/
def O₁ (c : Dev nD) : CellTallies nD τ sig Unit := tallyAt (kcell (peer c, 4)) () N + tallyAt (kcell (peer c, 3)) () N
/-- What it owes at launch: the signal too. -/
def O₀ (c : Dev nD) : CellTallies nD τ sig Unit := O₁ c + tallyAt (kcell (peer c, 0)) () 1

def L (g : GSem nD τ sig) : Finset Unit := if g.1.2 = .tc then {()} else ∅
/-- Level 1 for the barrier, 2 for the receipts, 0 for every other cell. -/
def level : Option (Fin 5) → ℕ
  | some 0 => 1 | some 3 => 2 | some 4 => 2 | _ => 0
def lv (g : GSem nD τ sig) (_ : Unit) : ℕ := level (kind g.2)

theorem L_of_ne (g : GSem nD τ sig) (h : g.1.2 ≠ .tc) : L g = ∅ := if_neg h
theorem L_tc (c : Dev nD) (sm : SemLoc sig) : L ((c : Thread nD τ), sm) = {()} := if_pos rfl

theorem lv_cell (c : Dev nD) (k : Fin 5) (u : Unit) : lv (kcell (c, k)) u = level (some k) := by
  show level (kind (csem k)) = _; rw [kind_csem]

theorem tally_cell (c c' : Dev nD) (k k' : Fin 5) (n : ℕ) (u : Unit) :
    (tallyAt (kcell (c, k)) () n : CellTallies nD τ sig Unit) (kcell (c', k')) u = if c' = c ∧ k' = k then n else 0 := by
  rw [tallyAt_apply]
  refine if_congr ⟨fun h => ?_, fun h => ?_⟩ rfl rfl
  · have := kcell_injective h.1; exact ⟨congrArg Prod.fst this, congrArg Prod.snd this⟩
  · rw [h.1, h.2]; exact ⟨rfl, rfl⟩

/-- A positive debt at launch is at one of the peer's cells 0, 3 and 4; -/
theorem O₀_pos {c : Dev nD} {g : GSem nD τ sig} {u : Unit} (h : 0 < O₀ c g u) :
    ∃ k : Fin 5, g = kcell (peer c, k) ∧ 0 < level (some k) := by
  unfold O₀ O₁ at h
  simp only [Pi.add_apply, Finsupp.add_apply, tallyAt_apply] at h
  by_cases h0 : g = kcell (peer c, 0)
  · exact ⟨0, h0, by decide⟩
  by_cases h3 : g = kcell (peer c, 3)
  · exact ⟨3, h3, by decide⟩
  by_cases h4 : g = kcell (peer c, 4)
  · exact ⟨4, h4, by decide⟩
  rw [if_neg (fun h' => h4 h'.1), if_neg (fun h' => h3 h'.1), if_neg (fun h' => h0 h'.1)] at h
  exact absurd h (Nat.lt_irrefl 0)

/-- after the signal, at one of its cells 3 and 4. -/
theorem O₁_pos {c : Dev nD} {g : GSem nD τ sig} {u : Unit} (h : 0 < O₁ c g u) :
    ∃ k : Fin 5, g = kcell (peer c, k) ∧ 1 < level (some k) := by
  unfold O₁ at h
  simp only [Pi.add_apply, Finsupp.add_apply, tallyAt_apply] at h
  by_cases h3 : g = kcell (peer c, 3)
  · exact ⟨3, h3, by decide⟩
  by_cases h4 : g = kcell (peer c, 4)
  · exact ⟨4, h4, by decide⟩
  rw [if_neg (fun h' => h4 h'.1), if_neg (fun h' => h3 h'.1)] at h
  exact absurd h (Nat.lt_irrefl 0)

/-- A wait on a cell of level `n` at most is allowed under debts whose levels are all above `n`. -/
theorem mayWait_of (c : Dev nD) (sm : SemLoc sig) (n : ℕ) (hsm : level (kind sm) ≤ n) (O : CellTallies nD τ sig Unit)
    (hO : ∀ g u, 0 < O g u → ∃ k : Fin 5, g = kcell (peer c, k) ∧ n < level (some k)) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by obtain ⟨k, rfl, -⟩ := hO g u hg; exact Finset.mem_singleton_self _)
    (fun p hp => by rw [Finset.mem_singleton.mp hp]; exact hsm)
    (fun g u hg => by obtain ⟨k, rfl, hk⟩ := hO g u hg; rw [lv_cell]; exact hk)

/-- The pipeline's own waits, at launch and with nothing owed; -/
theorem mayWait_stage (c : Dev nD) (sm : SemLoc sig) (hsm : level (kind sm) = 0) (O : CellTallies nD τ sig Unit) (hO : O = O₀ c ∨ O = 0) :
    (levAts L lv : sProp 𝕄) ⊢ MayWait (c : Thread nD τ) sm () O := by
  rcases hO with rfl | rfl
  · exact mayWait_of c sm 0 hsm.le _ fun g u h => O₀_pos h
  · rw [MayWait_zero]; iintro -; iempintro

/-- the barrier wait, the two transfers still owed. -/
theorem mayWait_bar (c : Dev nD) : (levAts L lv : sProp 𝕄) ⊢ MayWait (c : Thread nD τ) (.reg barS) () (O₁ c) :=
  mayWait_of c _ 1 (by show level (kind (csem 0)) ≤ 1; rw [kind_csem]; decide) _ fun g u h => O₁_pos h

end Cert.MeanProof

end
-- ==== Proof.Run.Steps.lean ====
/-
# One step of the body at a time

Cutting a scratch buffer into its two chunk areas and gluing it back; a load and a store of a chunk area; waiting for
a cell, which takes its payload and retires it; sending a chunk to the peer. Each is stated once, for any chunk area
or cell, and the body uses it at each of its effects.
-/
module

public import proofs.«01_k».proof.Proof.Run.Protocol

@[expose] public section

noncomputable section

namespace Cert.MeanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

abbrev 𝒱₀ : Variants := Variants.none

/-! ## Cutting a buffer into two areas and the rest -/

section Cut

variable (c : Dev nD) (b : Ref sig .tc) (r₁ r₂ : Rect b.ty.shape) (h₁ : ∀ a, r₁.stride a = 1) (h₂ : ∀ a, r₂.stride a = 1)

/-- The elements of buffer `b` outside both areas, at some contents. -/
def outside : sProp 𝕄 :=
  iprop(∃ f : Buf (Elt F) ((c : Thread nD τ).loc b), ((c : Thread nD τ).loc b) ↦[(Finset.univ \ r₁.set) \ r₂.set]{fullShare} f)

theorem area_set (r : Rect b.ty.shape) (h : ∀ a, r.stride a = 1) : ((Memref.whole b : Memref sig .tc _ _ _).slice r h).view.set = r.set :=
  View.set_slice_whole b r

theorem cut (hd : Disjoint r₁.set r₂.set) :
    iprop(∃ f : Buf (Elt F) ((c : Thread nD τ).loc b), ((c : Thread nD τ).loc b) ↦{fullShare} f)
      ⊢ (iprop((∃ X, owns (c : Thread nD τ) ((Memref.whole b).slice r₁ h₁) fullShare X)
          ∗ (∃ X, owns (c : Thread nD τ) ((Memref.whole b).slice r₂ h₂) fullShare X) ∗ outside c b r₁ r₂) : sProp 𝕄) := by
  have hs : r₂.set ⊆ Finset.univ \ r₁.set := fun i hi =>
    Finset.mem_sdiff.mpr ⟨Finset.mem_univ i, fun hi' => Finset.disjoint_left.mp hd hi' hi⟩
  iintro ⟨%f, H⟩
  ihave H' := (pointsTo_split_subset (I := r₁.set) (Finset.subset_univ _)).1 $$ H
  icases H' with ⟨H1, H⟩
  ihave H' := (pointsTo_split_subset hs).1 $$ H
  icases H' with ⟨H2, H⟩
  isplitl [H1]
  · iexists _
    iapply (owns_intro (c : Thread nD τ) ((Memref.whole b).slice r₁ h₁) fullShare f)
    rw [area_set b r₁ h₁]; iexact H1
  isplitl [H2]
  · iexists _
    iapply (owns_intro (c : Thread nD τ) ((Memref.whole b).slice r₂ h₂) fullShare f)
    rw [area_set b r₂ h₂]; iexact H2
  unfold outside; iexists f; iexact H

theorem glue (hd : Disjoint r₁.set r₂.set) :
    (iprop((∃ X, owns (c : Thread nD τ) ((Memref.whole b).slice r₁ h₁) fullShare X)
          ∗ (∃ X, owns (c : Thread nD τ) ((Memref.whole b).slice r₂ h₂) fullShare X) ∗ outside c b r₁ r₂) : sProp 𝕄)
      ⊢ iprop(∃ f : Buf (Elt F) ((c : Thread nD τ).loc b), ((c : Thread nD τ).loc b) ↦{fullShare} f) := by
  have hs : r₂.set ⊆ Finset.univ \ r₁.set := fun i hi =>
    Finset.mem_sdiff.mpr ⟨Finset.mem_univ i, fun hi' => Finset.disjoint_left.mp hd hi' hi⟩
  unfold owns outside
  rw [area_set b r₁ h₁, area_set b r₂ h₂]
  iintro ⟨⟨%X₁, %f₁, -, H1⟩, ⟨%X₂, %f₂, -, H2⟩, ⟨%f₃, H3⟩⟩
  ihave H := (pointsTo_join_subset (ℓ := (c : Thread nD τ).loc b) (I := r₂.set) (S := Finset.univ \ r₁.set) (g := f₂) (f := f₃) hs) $$ [H2 H3]
  · isplitl [H2]; · iexact H2
    iexact H3
  ihave H := (pointsTo_join_subset (ℓ := (c : Thread nD τ).loc b) (I := r₁.set) (g := f₁) (Finset.subset_univ r₁.set)) $$ [H1 H]
  · isplitl [H1]; · iexact H1
    iexact H
  iexists _; iexact H

end Cut

/-! ## Loading and storing an area -/

section Access

variable (c : Dev nD) {s : Shape} {e : EltTy} {M : Memref sig .tc .vmem s e} {r : Rect s} {hr : ∀ a, r.stride a = 1}
/-- A load of exactly an owned area gives the area's contents. -/
theorem load_area {α : Type} {Q : α → sProp 𝕄} {hl : M.view.LoadsAt r.toLoadRect} {q : PosShare TreeShare} {X : r.shape.Idx → Elt F e}
    {k : (r.shape.Idx → Elt F e) → Prog (TpuEff nD τ sig (Elt F) Λ₀ .tc) α} :
    (owns (c : Thread nD τ) (M.slice r hr) q X : sProp 𝕄)
      ⊢ iprop((owns (c : Thread nD τ) (M.slice r hr) q X -∗ wp frame (wpE (defs₀ (F := F)) 𝒱₀ (c : Thread nD τ) none) Set.univ (k X) Q)
        -∗ wp frame (wpE (defs₀ (F := F)) 𝒱₀ (c : Thread nD τ) none) Set.univ (.op (.load M r.toLoadRect hl) k) Q) := by
  iintro H Hk
  unfold owns
  icases H with ⟨%f, %hf, H⟩
  iapply (wp_load_rect 𝒱₀ (c : Thread nD τ) none Set.univ (m := M) (r := r) (S := (M.slice r hr).view.set) (Finset.Subset.refl _)) $$ H
  iintro H
  rw [show (M.access r).read (Elt F) f = X from hf]
  iapply Hk
  iexists f
  isplitr; · ipureintro; exact hf
  iexact H

/-- A store over exactly an owned area leaves what was stored. -/
theorem store_area {α : Type} {Q : α → sProp 𝕄} {w : r.shape.Idx → Elt F e} {hx : (M.access r).Stores Finset.univ}
    {hm : (Finset.univ : Finset r.shape.Idx) = Finset.univ ∨ ∀ a, r.stride a = 1}
    {k : PUnit → Prog (TpuEff nD τ sig (Elt F) Λ₀ .tc) α} {X : r.shape.Idx → Elt F e} :
    (owns (c : Thread nD τ) (M.slice r hr) fullShare X : sProp 𝕄)
      ⊢ iprop((owns (c : Thread nD τ) (M.slice r hr) fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store M r w Finset.univ hx hm) k) Q) := by
  iintro H Hk
  unfold owns
  icases H with ⟨%f, %hf, H⟩
  iapply (wp_store 𝒱₀ (c : Thread nD τ) none Set.univ (m := M) (r := r) (Mk := Finset.univ) (S := (M.slice r hr).view.set) (Finset.Subset.refl _)) $$ H
  iintro H
  iapply Hk
  iexists ((M.access r).write (Elt F) f w Finset.univ)
  isplitr
  · ipureintro; exact View.read_write_univ _ _
  iexact H

end Access

/-! ## Waiting for a cell -/

/-- Waiting for all a cell is paid: the cell's payload, and the cell retired with its counter at zero. -/
theorem wait_cell (c : Dev nD) (k : Fin 5) (κ : ℕ) {w : TpuEff nD τ sig (Elt F) Λ₀ .tc PUnit} {n : ℕ}
    (hw : ∀ K : PUnit → sProp 𝕄, wpE (defs₀ (F := F)) 𝒱₀ (c : Thread nD τ) none Set.univ w K = waitSpec (c : Thread nD τ) Set.univ (csem k) n K)
    (hn : n = amt (some k)) (O : CellTallies nD τ sig Unit) (W : Waits sig Unit)
    {α : Type} {Q : α → sProp 𝕄} {j : PUnit → Prog (TpuEff nD τ sig (Elt F) Λ₀ .tc) α} :
    iprop(cellInv ER (rd m ρ) κ (kcell (c, k)) ∗ cred (tallyAt (kcell (c, k)) () n) ∗ owes (c : Thread nD τ) O W
        ∗ MayWait (c : Thread nD τ) (csem k) () O ∗ atPos ER (kcell (c, k)) 0 ∅ 0)
      ⊢ iprop(((owes (c : Thread nD τ) O (insert (csem k, ()) W) ∗ semVal (kcell (c, k)) 0 ∗ pay m ρ c (some k))
            -∗ wp frame (wpE (defs₀ (F := F)) 𝒱₀ (c : Thread nD τ) none) Set.univ (j ⟨⟩) Q)
          -∗ wp frame (wpE (defs₀ (F := F)) 𝒱₀ (c : Thread nD τ) none) Set.univ (.op w j) Q) := by
  iintro ⟨#HI, Hc, HO, HM, Hat⟩ Hk
  iapply (Rounds.wp_wait_rest_token 𝒱₀ ER (rd m ρ) (c : Thread nD τ) none (κ := κ) (sm := csem k)
      hw (Set.mem_univ _) () (O := O) (W := W) (R := 0) (m := 0) (T := ∅)
      (by rw [Nat.zero_add, hn]; exact (expect_cell m ρ c k).symm)) $$ [Hc HO HM Hat]
  · isplitr; · iexact HI
    isplitl [Hc]; · iexact Hc
    isplitl [HO]; · iexact HO
    isplitl [HM]; · iexact HM
    iexact Hat
  iintro ⟨HO, Hat, -, Hp⟩
  ihave Hp := (Entails.of_eq (rest_cell m ρ c k)) $$ Hp
  imod (Rounds.cell_close ER (rd m ρ) (Set.mem_univ κ) (fun h => h) (R := 0 + 1) (duties_later m ρ (kcell (c, k)))) $$ [Hat] with Hz
  · isplitr; · iexact HI
    iexact Hat
  iapply Hk
  isplitl [HO]; · iexact HO
  isplitl [Hz]; · iexact Hz
  iexact Hp

/-! ## Sending a chunk -/

/-- Sending the chunk `X` held at half in `src` to `n = peer c`'s area `dst`: cell `ks` of `c` is paid with the half
    share, cell `kd` of the peer with the area holding `X`. -/
theorem send_chunk (c n : Dev nD) (hn : n = peer c) (ks kd : Fin 5) (κs κd : ℕ)
    (src dst : Memref sig .tc .vmem S6x128 .f32) (X : Vec F S6x128 .f32) (hks : amt (some ks) = N) (hkd : amt (some kd) = N)
    (hN : dst.view.amount (csem kd) = N)
    (hps : pay m ρ c (some ks) = owns (c : Thread nD τ) src fullShare.left X)
    (hpd : pay m ρ (peer c) (some kd) = owns (peer c : Thread nD τ) dst fullShare X)
    {hsc : (dst : Memref sig (Dev.tc n : Thread nD τ).2.kind .vmem S6x128 .f32).view.ref.isScScratch = false}
    {hsrc : src.view.WordExact} {hdst : dst.view.WordExact}
    {hsem : DmaTarget.Typed .vmem (csem kd) (.remote (Dev.tc n : Thread nD τ) dst (csem ks) hsc)}
    {α : Type} {Q : α → sProp 𝕄} {j : PUnit → Prog (TpuEff nD τ sig (Elt F) Λ₀ .tc) α}
    (O₀' O : CellTallies nD τ sig Unit) (hO : O₀' = O + tallyAt (kcell (peer c, kd)) () N) (W : Waits sig Unit) :
    iprop(cellInv ER (rd m ρ) κs (kcell (c, ks)) ∗ cellInv ER (rd m ρ) κd (kcell (peer c, kd))
        ∗ owns (c : Thread nD τ) src fullShare.left X ∗ free (peer c) dst
        ∗ owes (c : Thread nD τ) O₀' W
        ∗ dutyTok ER (kcell (c, ks)) 0 () ∗ reached ER (kcell (c, ks)) 0
        ∗ dutyTok ER (kcell (peer c, kd)) 0 () ∗ reached ER (kcell (peer c, kd)) 0)
      ⊢ iprop(((cred (tallyAt (kcell (c, ks)) () N) ∗ owes (c : Thread nD τ) O W)
            -∗ wp frame (wpE (defs₀ (F := F)) 𝒱₀ (c : Thread nD τ) none) Set.univ (j ⟨⟩) Q)
          -∗ wp frame (wpE (defs₀ (F := F)) 𝒱₀ (c : Thread nD τ) none) Set.univ
              (.op (.enqueueDma src (.remote (Dev.tc n : Thread nD τ) dst (csem ks) hsc) (csem kd) hsrc hdst hsem) j) Q) := by
  subst hn
  iintro ⟨#HIs, #HId, Hs, Hd, HO, Hts, #Hrs, Htd, #Hrd⟩
  unfold free owns
  icases Hs with ⟨%fs, %hfs, Hs⟩
  icases Hd with ⟨%Y, %fd, -, Hd⟩
  iapply (Rounds.wp_send_pointsTo 𝒱₀ ER (rd m ρ) (c : Thread nD τ) none (κ₁ := κs) (κ₂ := κd)
    (r₁ := 0) (r₂ := 0) (d₁ := ()) (d₂ := ()) (fs := fs) (fd := fd)
    (by rw [duties_cell]; exact Finset.mem_singleton_self _) (by rw [duties_cell]; exact Finset.mem_singleton_self _)
    () () N hN ((amount_cell m ρ c ks 0 ()).trans hks) ((amount_cell m ρ (peer c) kd 0 ()).trans hkd) O hO (W := W)
    (by
      rw [payload_cell, hps]
      exact (owns_intro (c : Thread nD τ) src fullShare.left fs).trans (Entails.of_eq (by rw [hfs])))
    (by
      rw [payload_cell, hpd]
      refine (owns_intro (peer c : Thread nD τ) dst fullShare _).trans (Entails.of_eq ?_)
      rw [View.read_write_univ, hfs]))
  isplitr; · iexact HIs
  isplitr; · iexact HId
  isplitl [Hs]; · iexact Hs
  isplitl [Hd]; · iexact Hd
  isplitl [HO]; · iexact HO
  isplitl [Hts]; · iexact Hts
  isplitr; · iexact Hrs
  isplitl [Htd]; · iexact Htd
  iexact Hrd

end Cert.MeanProof

end
-- ==== Proof.Run.Output.lean ====
/-
# What the body leaves in the output block

The body writes the 1536 results in twelve columns of 128, one store each: columns 0–5 from the first pair of chunks
(its own sums and the peer's), columns 6–11 from the second. Read row by row, the block holds at row `r` the sum of
the two chunks at `(r / 128 mod 6, r mod 128)`.
-/
module

public import proofs.«01_k».proof.Proof.Run.Steps
public import Idealize.ShloMosaic.Lib.Writes
public import Idealize.ShloMosaic.Lib.ValueLayout

@[expose] public section

noncomputable section

namespace Cert.MeanProof

open Cert.KernelIdeal Cert.KernelIdeal.Gen

open Idealize.ShloMosaic Idealize.ShloMosaic.ValueIdx
open Idealize.ShloMosaic.TcCoe

variable {F : FTy → Type} [FloatOps F] [Named F]

variable (m : (ℓ : Loc nD τ sig) → Buf (Elt F) ℓ) (ρ : Dev nD → PrngReg)

/-- The entry of a 6×128 chunk that belongs to row `r` of the output. -/
def row (Z : Vec F S6x128 .f32) (r : ℕ) : F .f32 :=
  Z (ix2 (⟨r / 128 % 6, Nat.mod_lt _ (by decide)⟩ : Fin 6) (⟨r % 128, Nat.mod_lt _ (by decide)⟩ : Fin 128))

/-- The block two pairs of chunks leave: the first pair's sums in the upper 768 rows, the second's below. -/
def joined (X₀ Y₀ X₁ Y₁ : Vec F S6x128 .f32) : (cc0_stg1_0 : Ref sig .tc).ty.Contents (Elt F) :=
  fun y : S1536x1.Idx => if (y 0).val < 768 then row (addf X₀ Y₀) (y 0).val else row (addf X₁ Y₁) (y 0).val

/-- Device `c`'s output block. -/
def outAt (c : Dev nD) : (cc0_stg1_0 : Ref sig .tc).ty.Contents (Elt F) :=
  joined (part0 m ρ c) (part0 m ρ (peer c)) (part1 m ρ c) (part1 m ρ (peer c))

theorem slices_column (a : ℕ) (ha : a < 6) : S128x6.Slices ![0, a] S128x1 := by
  interval_cases a <;> decide

theorem inb_column (k : Fin 12) : ∀ a : Fin 2, (![128 * k.val, 0] : Fin 2 → ℕ) a + S128x1.size a ≤ S1536x1.size a := by
  revert k; decide

/-- Column `a` of the transposed sum of two chunks. -/
def column (a : ℕ) (ha : a < 6) (X Y : Vec F S6x128 .f32) : FVec F S128x1 .f32 :=
  extractStridedSlice S128x1 ![0, a] (transpose S128x6 [1, 0] (addf X Y) transposes_S6x128_p1_0_S128x6) (slices_column a ha)

theorem column_apply (a : ℕ) (ha : a < 6) (X Y : Vec F S6x128 .f32) (x : S128x1.Idx) (r : ℕ) (hr : r / 128 % 6 = a) (hx : r % 128 = (x 0).val) :
    column a ha X Y x = row (addf X Y) r := by
  unfold column row
  refine (extractStridedSlice_apply _ _ _ x (ix2 (⟨(x 0).val, (x 0).isLt⟩ : Fin 128) (⟨a, ha⟩ : Fin 6)) fun b => ?_).trans ?_
  · match b with
    | ⟨0, _⟩ => exact (Nat.zero_add _).symm
    | ⟨1, _⟩ =>
      have h : (x 1).val = 0 := Nat.lt_one_iff.mp (x 1).isLt
      show a = a + (x 1).val
      omega
  · refine (transpose_ix2_apply _ _ _ _).trans (congrArg _ ?_)
    subst hr
    congr 1
    exact Fin.ext hx.symm

/-- The `k`-th of the twelve stores. -/
def piece (X₀ Y₀ X₁ Y₁ : Vec F S6x128 .f32) (k : Fin 12) : View.Piece (Elt F) S1536x1 .f32 :=
  ⟨Rect.unit (s := S1536x1) ![128 * k.val, 0] S128x1.size (inb_column k),
    column (k.val % 6) (Nat.mod_lt _ (by decide)) (if k.val < 6 then X₀ else X₁) (if k.val < 6 then Y₀ else Y₁)⟩

/-- All of them, the last first. -/
abbrev pieces (X₀ Y₀ X₁ Y₁ : Vec F S6x128 .f32) : List (View.Piece (Elt F) S1536x1 .f32) :=
  let p := piece X₀ Y₀ X₁ Y₁
  [p 11, p 10, p 9, p 8, p 7, p 6, p 5, p 4, p 3, p 2, p 1, p 0]

theorem mem_pieces (X₀ Y₀ X₁ Y₁ : Vec F S6x128 .f32) (k : Fin 12) : piece X₀ Y₀ X₁ Y₁ k ∈ pieces X₀ Y₀ X₁ Y₁ := by
  fin_cases k <;> simp [pieces]

theorem of_mem_pieces {X₀ Y₀ X₁ Y₁ : Vec F S6x128 .f32} {p : View.Piece (Elt F) S1536x1 .f32} (h : p ∈ pieces X₀ Y₀ X₁ Y₁) :
    ∃ k, p = piece X₀ Y₀ X₁ Y₁ k := by
  simp only [pieces, List.mem_cons, List.not_mem_nil, or_false] at h
  rcases h with h | h | h | h | h | h | h | h | h | h | h | h <;> exact ⟨_, h⟩

/-- Each store writes what the joined block holds there. -/
theorem piece_joined (X₀ Y₀ X₁ Y₁ : Vec F S6x128 .f32) (k : Fin 12) (x : S128x1.Idx) :
    (piece X₀ Y₀ X₁ Y₁ k).2 x = joined X₀ Y₀ X₁ Y₁ ((piece X₀ Y₀ X₁ Y₁ k).1.emb x) := by
  have hx : (x 0).val < 128 := (x 0).isLt
  have hk : k.val < 12 := k.isLt
  have he : ((piece X₀ Y₀ X₁ Y₁ k).1.emb x 0).val = 128 * k.val + (x 0).val := by
    show 128 * k.val + 1 * (x 0).val = _
    omega
  unfold joined
  dsimp only
  rw [he]
  show column (k.val % 6) (Nat.mod_lt _ (by decide)) _ _ x = _
  rw [column_apply _ _ _ _ x (128 * k.val + (x 0).val) (by omega) (by omega)]
  by_cases h : k.val < 6
  · rw [if_pos h, if_pos h, if_pos (by omega)]
  · rw [if_neg h, if_neg h, if_neg (by omega)]

/-- Every row is in one of the stores. -/
theorem pieces_cover (X₀ Y₀ X₁ Y₁ : Vec F S6x128 .f32) (y : S1536x1.Idx) : ∃ p ∈ pieces X₀ Y₀ X₁ Y₁, y ∈ p.1.set := by
  have hy : (y 0).val < 1536 := (y 0).isLt
  have h1 : (y 1).val = 0 := Nat.lt_one_iff.mp (y 1).isLt
  refine ⟨_, mem_pieces X₀ Y₀ X₁ Y₁ ⟨(y 0).val / 128, by omega⟩, ?_⟩
  let x : S128x1.Idx := ix2 (⟨(y 0).val % 128, Nat.mod_lt _ (by decide)⟩ : Fin 128) (0 : Fin 1)
  have hx : (piece X₀ Y₀ X₁ Y₁ ⟨(y 0).val / 128, by omega⟩).1.emb x = y := funext fun a => Fin.ext ?_
  · rw [← Rect.map_emb_univ]
    exact Finset.mem_map.mpr ⟨x, Finset.mem_univ _, hx⟩
  match a with
  | ⟨0, _⟩ =>
    show 128 * ((y 0).val / 128) + 1 * ((y 0).val % 128) = (y 0).val
    omega
  | ⟨1, _⟩ =>
    show 0 + 1 * 0 = (y 1).val
    omega

/-- So the twelve stores leave the joined block, whatever was there. -/
theorem writes_pieces (f : (cc0_stg1_0 : Ref sig .tc).ty.Contents (Elt F)) (X₀ Y₀ X₁ Y₁ : Vec F S6x128 .f32) :
    (oM : Memref sig .tc .vmem S1536x1 .f32).view.writes (Elt F) f (pieces X₀ Y₀ X₁ Y₁) = joined X₀ Y₀ X₁ Y₁ := by
  funext y
  have h := View.read_writes_apply_of_pieces (oM : Memref sig .tc .vmem S1536x1 .f32).view f (joined X₀ Y₀ X₁ Y₁) (pieces X₀ Y₀ X₁ Y₁)
    (fun p hp x => by obtain ⟨k, rfl⟩ := of_mem_pieces hp; exact piece_joined X₀ Y₀ X₁ Y₁ k x) y (pieces_cover X₀ Y₀ X₁ Y₁ y)
  simpa only [Memref.view_whole, View.read_whole] using h

end Cert.MeanProof

end
-- ==== Proof.Run.Body.lean ====
/-
# The body on one device

From its ghost state, its credits and its two scratch buffers, the body on device `c` runs to the end with the output
block at `outAt c`, the scratch buffers returned and its five cells retired at zero.
-/
module

public import proofs.«01_k».proof.Proof.Run.Output
public import proofs.«01_k».proof.Proof.Gen.KernelIdeal.Points

@[expose] public section

noncomputable section

namespace Cert.MeanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## What a device holds at the start and at the end -/

/-- The invariants of the cells device `c` touches: its own five, and the three of its peer's it pays. -/
def invs (K : Dev nD × Fin 5 → ℕ) (c : Dev nD) : sProp 𝕄 :=
  iprop(cellInv ER (rd m ρ) (K (c, 0)) (kcell (c, 0)) ∗ cellInv ER (rd m ρ) (K (c, 1)) (kcell (c, 1))
    ∗ cellInv ER (rd m ρ) (K (c, 2)) (kcell (c, 2)) ∗ cellInv ER (rd m ρ) (K (c, 3)) (kcell (c, 3))
    ∗ cellInv ER (rd m ρ) (K (c, 4)) (kcell (c, 4)) ∗ cellInv ER (rd m ρ) (K (peer c, 0)) (kcell (peer c, 0))
    ∗ cellInv ER (rd m ρ) (K (peer c, 3)) (kcell (peer c, 3)) ∗ cellInv ER (rd m ρ) (K (peer c, 4)) (kcell (peer c, 4)))

instance invs_persistent (K : Dev nD × Fin 5 → ℕ) (c : Dev nD) : BI.Persistent (invs m ρ K c) := by unfold invs; infer_instance

/-- Its positions, at the start of its own five cells. -/
def posns (c : Dev nD) : sProp 𝕄 :=
  iprop(atPos ER (kcell (c, 0)) 0 ∅ 0 ∗ atPos ER (kcell (c, 1)) 0 ∅ 0 ∗ atPos ER (kcell (c, 2)) 0 ∅ 0
    ∗ atPos ER (kcell (c, 3)) 0 ∅ 0 ∗ atPos ER (kcell (c, 4)) 0 ∅ 0)

/-- That the cells it pays, and the two landing cells it announces, have been opened. -/
def opened (c : Dev nD) : sProp 𝕄 :=
  iprop(reached ER (kcell (peer c, 0)) 0 ∗ reached ER (kcell (c, 1)) 0 ∗ reached ER (kcell (c, 2)) 0
    ∗ reached ER (kcell (c, 3)) 0 ∗ reached ER (kcell (c, 4)) 0)

instance opened_persistent (c : Dev nD) : BI.Persistent (opened c : sProp 𝕄) := by unfold opened; infer_instance

/-- The tokens of the five payments it makes: the peer's barrier, the peer's two receipts, its own two sends. -/
def payToks (c : Dev nD) : sProp 𝕄 :=
  iprop(dutyTok ER (kcell (peer c, 0)) 0 () ∗ dutyTok ER (kcell (peer c, 3)) 0 () ∗ dutyTok ER (kcell (peer c, 4)) 0 ()
    ∗ dutyTok ER (kcell (c, 1)) 0 () ∗ dutyTok ER (kcell (c, 2)) 0 ())

def ghost (K : Dev nD × Fin 5 → ℕ) (c : Dev nD) : sProp 𝕄 :=
  iprop(invs m ρ K c ∗ opened c ∗ posns c ∗ payToks c)

/-- What is owed to it: its barrier's signal and its two receipts. -/
def credits (c : Dev nD) : sProp 𝕄 :=
  iprop(cred (tallyAt (kcell (c, 0)) () 1) ∗ cred (tallyAt (kcell (c, 3)) () N) ∗ cred (tallyAt (kcell (c, 4)) () N))

def start (c : Dev nD) : sProp 𝕄 := iprop((∃ K, ghost m ρ K c) ∗ credits c ∗ levAts L lv)

/-- A buffer of device `c`, whole, at some contents. -/
abbrev some_ (c : Dev nD) (b : Ref sig .tc) : sProp 𝕄 :=
  iprop(∃ f : Buf (Elt F) ((c : Thread nD τ).loc b), ((c : Thread nD τ).loc b) ↦{fullShare} f)

def Φ₀ (c : Dev nD) : sProp 𝕄 := iprop(start m ρ c ∗ some_ c cc0_scratch0 ∗ some_ c cc0_scratch1)

/-- The five cells of device `c`, retired at zero. -/
def zeros (c : Dev nD) : sProp 𝕄 :=
  iprop(semVal (kcell (c, 0)) 0 ∗ semVal (kcell (c, 1)) 0 ∗ semVal (kcell (c, 2)) 0 ∗ semVal (kcell (c, 3)) 0 ∗ semVal (kcell (c, 4)) 0)

def Φ₁ (c : Dev nD) : sProp 𝕄 := iprop(zeros c ∗ some_ c cc0_scratch0 ∗ some_ c cc0_scratch1)

/-- The pipeline's data: the arrays at launch, the two blocks after the one iteration, and what is held and owed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## Facts the steps use -/

theorem sRects_disjoint : Disjoint sRect0.set sRect1.set := Rect.disjoint_of_separated _ _ 0 (Or.inl (by decide))
theorem rRects_disjoint : Disjoint rRect0.set rRect1.set := Rect.disjoint_of_separated _ _ 0 (Or.inl (by decide))

/-- The peer's signal pays with the device's own landing areas. -/
theorem pay_bar (c : Dev nD) :
    pay m ρ (peer c) (some 0) = iprop(free c rM0 ∗ free c rM1 ∗ reached ER (kcell (c, 3)) 0 ∗ reached ER (kcell (c, 4)) 0) := by
  unfold pay; rw [peer_peer]
/-- The peer's receipts are of the device's own sums. -/
theorem pay_recv0 (c : Dev nD) : pay m ρ (peer c) (some 3) = owns (peer c : Thread nD τ) rM0 fullShare (part0 m ρ c) := by
  unfold pay; dsimp only; rw [peer_peer]
theorem pay_recv1 (c : Dev nD) : pay m ρ (peer c) (some 4) = owns (peer c : Thread nD τ) rM1 fullShare (part1 m ρ c) := by
  unfold pay; dsimp only; rw [peer_peer]

/-- The output block of device `c` at contents `f`. -/
abbrev oPts (c : Dev nD) (f : (cc0_stg1_0 : Ref sig .tc).ty.Contents (Elt F)) : sProp 𝕄 :=
  (((c : Thread nD τ).loc cc0_stg1_0) ↦{fullShare} (f : Buf (Elt F) ((c : Thread nD τ).loc cc0_stg1_0)))

/-- One column stored: the column's rows loaded (and not used), then written. -/
theorem store_column (c : Dev nD) {r : Rect S1536x1} {hl : (oM : Memref sig .tc .vmem S1536x1 .f32).view.LoadsAt r.toLoadRect}
    {w : r.shape.Idx → Elt F .f32} {hx : ((oM : Memref sig .tc .vmem S1536x1 .f32).access r).Stores Finset.univ}
    {hm : (Finset.univ : Finset r.shape.Idx) = Finset.univ ∨ ∀ a, r.stride a = 1}
    {f : (cc0_stg1_0 : Ref sig .tc).ty.Contents (Elt F)}
    {α : Type} {Q : α → sProp 𝕄} {k : PUnit → Prog (TpuEff nD τ sig (Elt F) Λ₀ .tc) α} :
    (oPts c f : sProp 𝕄)
      ⊢ iprop((oPts c (((oM : Memref sig .tc .vmem S1536x1 .f32).access r).write (Elt F) f w Finset.univ)
            -∗ wp frame (wpE (defs₀ (F := F)) 𝒱₀ (c : Thread nD τ) none) Set.univ (k ⟨⟩) Q)
        -∗ wp frame (wpE (defs₀ (F := F)) 𝒱₀ (c : Thread nD τ) none) Set.univ
            (.op (.load oM r.toLoadRect hl) fun _ => .op (.store oM r w Finset.univ hx hm) k) Q) := by
  iintro Hout Hk
  iapply (wp_load 𝒱₀ (c : Thread nD τ) none Set.univ (m := oM) (Finset.subset_univ _)) $$ Hout; iintro Hout
  iapply (wp_store 𝒱₀ (c : Thread nD τ) none Set.univ (m := oM) (r := r) (Mk := Finset.univ) (Finset.subset_univ _)) $$ Hout; iintro Hout
  iapply Hk; iexact Hout

/-- One chunk of sums put in its area: the area loaded (and not used), then written; half of it stays, half is to be sent. -/
theorem put_chunk (c : Dev nD) {r : Rect S12x128} {hr : ∀ a, r.stride a = 1}
    {hl : (Memref.whole cc0_scratch0 : Memref sig .tc .vmem S12x128 .f32).view.LoadsAt r.toLoadRect}
    {w : r.shape.Idx → Elt F .f32} {hx : ((Memref.whole cc0_scratch0 : Memref sig .tc .vmem S12x128 .f32).access r).Stores Finset.univ}
    {hm : (Finset.univ : Finset r.shape.Idx) = Finset.univ ∨ ∀ a, r.stride a = 1}
    {X : r.shape.Idx → Elt F .f32} {α : Type} {Q : α → sProp 𝕄} {k : PUnit → Prog (TpuEff nD τ sig (Elt F) Λ₀ .tc) α} :
    (owns (c : Thread nD τ) ((Memref.whole cc0_scratch0).slice r hr) fullShare X : sProp 𝕄)
      ⊢ iprop(((owns (c : Thread nD τ) ((Memref.whole cc0_scratch0).slice r hr) fullShare.left w
              ∗ owns (c : Thread nD τ) ((Memref.whole cc0_scratch0).slice r hr) fullShare.right w)
            -∗ wp frame (wpE (defs₀ (F := F)) 𝒱₀ (c : Thread nD τ) none) Set.univ (k ⟨⟩) Q)
        -∗ wp frame (wpE (defs₀ (F := F)) 𝒱₀ (c : Thread nD τ) none) Set.univ
            (.op (.load (Memref.whole cc0_scratch0) r.toLoadRect hl) fun _ => .op (.store (Memref.whole cc0_scratch0) r w Finset.univ hx hm) k) Q) := by
  iintro H Hk
  iapply (load_area c (hr := hr)) $$ H; iintro H
  iapply (store_area c (hr := hr)) $$ H; iintro H
  iapply Hk
  iapply (owns_halves (c : Thread nD τ) _ fullShare w).1; iexact H

/-! ## The body -/

/-- A staging block at contents equal to `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 5 → ℕ) (c : Dev nD) : sProp 𝕄 :=
  iprop((ghost m ρ K c ∗ credits c ∗ levAts L lv ∗ some_ c cc0_scratch0 ∗ some_ c cc0_scratch1)
    ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ c ∗ (dats m ρ 0 c).owesAt () t0_0.succ ∗ stg c cc0_stg0_0 (xstg m ρ c) ∗ stg c cc0_stg1_0 (outAt m ρ c))

set_option maxHeartbeats 1600000 in
set_option maxRecDepth 8000 in
/-- One rule per effect, in program order. -/
theorem sound_body (K : Dev nD × Fin 5 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part4_eq_skeleton]; unfold k0_part4_skel
  simp only [k0_part1_eq_skeleton, k0_part2_eq_skeleton, k0_part3_eq_skeleton]; unfold k0_part1_skel k0_part2_skel k0_part3_skel
  simp only [semSignalWord, semWaitWord, Prog.lift, Prog.bind_op, Prog.bind_ret, Prog.pure_eq_ret, wp_deviceId]
  unfold bodyPre ghost invs opened posns payToks credits
  iintro ⟨⟨⟨⟨⟨#HI0, #HI1, #HI2, #HI3, #HI4, #HJ0, #HJ3, #HJ4⟩, ⟨#Hr0, #Hr1, #Hr2, #Hr3, #Hr4⟩, ⟨Ha0, Ha1, Ha2, Ha3, Ha4⟩, ⟨Ht0, Ht3, Ht4, Ht1, Ht2⟩⟩,
      ⟨Hc0, Hc3, Hc4⟩, #Hlev, HS, HR⟩, Ho, ⟨%d0, %g0, %hg0, Hx⟩, ⟨%d1, %g1, %hg1, Hout⟩⟩, Hk⟩
  have hx : g0 = xstg m ρ c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl]
  simp only [dev1_eq c]
  ihave HS' := (cut c cc0_scratch0 sRect0 sRect1 (fun _ => rfl) (fun _ => rfl) sRects_disjoint) $$ HS
  icases HS' with ⟨⟨%X0, HS0⟩, ⟨%X1, HS1⟩, HSo⟩
  ihave HR' := (cut c cc0_scratch1 rRect0 rRect1 (fun _ => rfl) (fun _ => rfl) rRects_disjoint) $$ HR
  icases HR' with ⟨HR0, HR1, HRo⟩
  -- the signal to the peer's barrier hands over the two landing areas
  iapply (Rounds.wp_signal 𝒱₀ ER (rd m ρ) (c : Thread nD τ) none (dst := (peer c : Thread nD τ)) (sem := barS) (κ := K (peer c, 0))
      (r := 0) (d := ()) (by rw [duties_cell m ρ (peer c) 0]; exact Finset.mem_singleton_self _) ((amount_cell m ρ (peer c) 0 0 ()).trans rfl) () (O₁ c) rfl)
    $$ [HO Ht0 HR0 HR1]
  · isplitr; · iexact HJ0
    isplitl [HO]; · iexact HO
    isplitl [Ht0]; · iexact Ht0
    isplitl [HR0 HR1]
    · iapply (Entails.of_eq (((payload_cell m ρ (peer c) 0 0 ()).trans (pay_bar m ρ c)).symm))
      unfold free
      isplitl [HR0]; · iexact HR0
      isplitl [HR1]; · iexact HR1
      isplitr; · iexact Hr3
      iexact Hr4
    · iexact Hr0
  iintro HO
  -- the first chunk of sums
  iapply (wp_load 𝒱₀ (c : Thread nD τ) none Set.univ (m := xM) (Finset.subset_univ _)) $$ Hx; iintro Hx
  iapply (put_chunk c (hr := fun _ => rfl)) $$ HS0
  iintro ⟨HS0, HS0'⟩
  -- the barrier: the peer's landing areas arrive
  iapply (wait_cell m ρ c 0 (K (c, 0)) (n := 1) (wpE_semWait_eq 𝒱₀ (c : Thread nD τ) none Set.univ) rfl (O₁ c) W) $$ [Hc0 HO Ha0]
  · isplitr; · iexact HI0
    isplitl [Hc0]; · iexact Hc0
    isplitl [HO]; · iexact HO
    isplitr; · iapply (mayWait_bar c); iexact Hlev
    iexact Ha0
  iintro ⟨HO, Hz0, Hp⟩
  unfold pay
  icases Hp with ⟨HP0, HP1, #Hq3, #Hq4⟩
  -- the first chunk leaves
  iapply (send_chunk m ρ c _ (dev2_eq c) 1 3 (K (c, 1)) (K (peer c, 3)) sM0 rM0 (part0 m ρ c) rfl rfl rfl rfl (pay_recv0 m ρ c)
      (O₁ c) (tallyAt (kcell (peer c, 4)) () N) rfl _) $$ [HS0 HP0 HO Ht1 Ht3]
  · isplitr; · iexact HI1
    isplitr; · iexact HJ3
    isplitl [HS0]; · iexact HS0
    isplitl [HP0]; · iexact HP0
    isplitl [HO]; · iexact HO
    isplitl [Ht1]; · iexact Ht1
    isplitr; · iexact Hr1
    isplitl [Ht3]; · iexact Ht3
    iexact Hq3
  iintro ⟨Hc1, HO⟩
  -- the second chunk of sums, and it leaves
  iapply (wp_load 𝒱₀ (c : Thread nD τ) none Set.univ (m := xM) (Finset.subset_univ _)) $$ Hx; iintro Hx
  iapply (put_chunk c (hr := fun _ => rfl)) $$ HS1
  iintro ⟨HS1, HS1'⟩
  iapply (send_chunk m ρ c _ (dev3_eq c) 2 4 (K (c, 2)) (K (peer c, 4)) sM1 rM1 (part1 m ρ c) rfl rfl rfl rfl (pay_recv1 m ρ c)
      (tallyAt (kcell (peer c, 4)) () N) 0 (zero_add _).symm _) $$ [HS1 HP1 HO Ht2 Ht4]
  · isplitr; · iexact HI2
    isplitr; · iexact HJ4
    isplitl [HS1]; · iexact HS1
    isplitl [HP1]; · iexact HP1
    isplitl [HO]; · iexact HO
    isplitl [Ht2]; · iexact Ht2
    isplitr; · iexact Hr2
    isplitl [Ht4]; · iexact Ht4
    iexact Hq4
  iintro ⟨Hc2, HO⟩
  -- the peer's first chunk arrives; six columns
  iapply (wait_cell m ρ c 3 (K (c, 3)) (wpE_waitDma2_eq 𝒱₀ (c : Thread nD τ) none Set.univ) rfl 0 _) $$ [Hc3 HO Ha3]
  · isplitr; · iexact HI3
    isplitl [Hc3]; · iexact Hc3
    isplitl [HO]; · iexact HO
    isplitr; · rw [MayWait_zero]; iempintro
    iexact Ha3
  iintro ⟨HO, Hz3, HR0⟩
  unfold pay
  iapply (load_area c (hr := fun _ => rfl)) $$ HS0'; iintro HS0'
  iapply (load_area c (hr := fun _ => rfl)) $$ HR0; iintro HR0
  iterate 6 (iapply (store_column c) $$ Hout; iintro Hout)
  -- the peer's second chunk arrives; six columns
  iapply (wait_cell m ρ c 4 (K (c, 4)) (wpE_waitDma2_eq 𝒱₀ (c : Thread nD τ) none Set.univ) credit_r1 0 _) $$ [Hc4 HO Ha4]
  · isplitr; · iexact HI4
    isplitl [Hc4]; · iexact Hc4
    isplitl [HO]; · iexact HO
    isplitr; · rw [MayWait_zero]; iempintro
    iexact Ha4
  iintro ⟨HO, Hz4, HR1⟩
  unfold pay
  iapply (load_area c (hr := fun _ => rfl)) $$ HS1'; iintro HS1'
  iapply (load_area c (hr := fun _ => rfl)) $$ HR1; iintro HR1
  iterate 6 (iapply (store_column c) $$ Hout; iintro Hout)
  -- both of its own chunks have been read
  iapply (wait_cell m ρ c 1 (K (c, 1)) (wpE_waitDma2_eq 𝒱₀ (c : Thread nD τ) none Set.univ) credit_s0 0 _) $$ [Hc1 HO Ha1]
  · isplitr; · iexact HI1
    isplitl [Hc1]; · iexact Hc1
    isplitl [HO]; · iexact HO
    isplitr; · rw [MayWait_zero]; iempintro
    iexact Ha1
  iintro ⟨HO, Hz1, HS0⟩
  iapply (wait_cell m ρ c 2 (K (c, 2)) (wpE_waitDma2_eq 𝒱₀ (c : Thread nD τ) none Set.univ) credit_s1 0 _) $$ [Hc2 HO Ha2]
  · isplitr; · iexact HI2
    isplitl [Hc2]; · iexact Hc2
    isplitl [HO]; · iexact HO
    isplitr; · rw [MayWait_zero]; iempintro
    iexact Ha2
  iintro ⟨HO, Hz2, HS1⟩
  unfold pay
  rw [wp_ret]; imodintro
  iapply Hk
  unfold bodyPost Φ₁ zeros Dat.owesAt Pipeline.owesWithin
  rw [show (dats m ρ 0 c).owed t0_0.succ = 0 from rfl]
  isplitl [Hz0 Hz1 Hz2 Hz3 Hz4 HS0 HS0' HS1 HS1' HSo HR0 HR1 HRo]
  · isplitl [Hz0 Hz1 Hz2 Hz3 Hz4]
    · isplitl [Hz0]; · iexact Hz0
      isplitl [Hz1]; · iexact Hz1
      isplitl [Hz2]; · iexact Hz2
      isplitl [Hz3]; · iexact Hz3
      iexact Hz4
    isplitl [HS0 HS0' HS1 HS1' HSo]
    · iapply (glue c cc0_scratch0 sRect0 sRect1 (fun _ => rfl) (fun _ => rfl) sRects_disjoint)
      isplitl [HS0 HS0']
      · iexists _; iapply (owns_halves (c : Thread nD τ) sM0 fullShare (part0 m ρ c)).2
        isplitl [HS0]; · iexact HS0
        iexact HS0'
      isplitl [HS1 HS1']
      · iexists _; iapply (owns_halves (c : Thread nD τ) sM1 fullShare (part1 m ρ c)).2
        isplitl [HS1]; · iexact HS1
        iexact HS1'
      iexact HSo
    · iapply (glue c cc0_scratch1 rRect0 rRect1 (fun _ => rfl) (fun _ => rfl) rRects_disjoint)
      isplitl [HR0]; · iexists _; iexact HR0
      isplitl [HR1]; · iexists _; iexact HR1
      iexact HRo
  isplitl [HO]
  · iexists (insert (csem 2, ()) (insert (csem 1, ()) (insert (csem 4, ()) (insert (csem 3, ()) (insert (csem 0, ()) W)))))
    isplitr; · ipureintro; exact fun _ _ => Or.inl trivial
    iexact HO
  isplitl [Hx]
  · iexists _; isplitr; · (ipureintro; rfl)
    iexact Hx
  iexists _
  isplitr; · ipureintro; exact writes_pieces g1 (part0 m ρ c) (part0 m ρ (peer c)) (part1 m ρ c) (part1 m ρ (peer c))
  iexact Hout

/-- `bodyPre` with the ghost state and credits still packed in `Φ₀`. -/
def bodyPre' (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

set_option maxRecDepth 8000 in
/-- The pipeline's obligation for its one iteration. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3)
    (fun _ => bodyPost m ρ c)
  unfold bodyPre' Φ₀ start
  iintro ⟨⟨⟨⟨%K, Hg⟩, Hc, Hl⟩, HS, HR⟩, Ho, Hx, Hout⟩
  iapply (sound_body m ρ K c fun _ => bodyPost m ρ c)
  unfold bodyPre
  isplitr []
  · isplitl [Hg Hc Hl HS HR]
    · isplitl [Hg]; · iexact Hg
      isplitl [Hc]; · iexact Hc
      isplitl [Hl]; · iexact Hl
      isplitl [HS]; · iexact HS
      iexact HR
    isplitl [Ho]; · iexact Ho
    isplitl [Hx]; · iexact Hx
    iexact Hout
  · iintro H; iexact H

end Cert.MeanProof

end
-- ==== Proof.Run.Launch.lean ====
/-
# The launch of the four devices

Every device's five cells are opened at once, the payment tokens of the barrier and of the receipts change hands
between peers, and what the devices owe each other at launch is what each is credited. With that, the run: every fair
execution ends, every array at its final contents and every semaphore at zero.
-/
module

public import proofs.«01_k».proof.Proof.Run.Body
public import Idealize.ShloMosaic.Lib.Pipeline.CollectiveSegs

@[expose] public section

noncomputable section

namespace Cert.MeanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The four transfer semaphores and the barrier -/

/-- The kernel's own semaphores: the two sends and the two receipts. -/
abbrev osem : Fin 4 → SemLoc sig := fun k => csem k.succ

theorem ownSemFacts : Pipeline.OwnSemFacts cfg0.spec osem := by decide

theorem five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

abbrev ownZ (c : Dev nD) : sProp 𝕄 :=
  Pipeline.ownSems0 (Ix := Unit) (Name := ℕ) (U := UU) (Lvl := ℕ) (Val := Elt F) (τ := τ) osem c

theorem ownZ_eq (c : Dev nD) :
    (ownZ c : sProp 𝕄) = iprop(semVal (kcell (c, 1)) 0 ∗ semVal (kcell (c, 2)) 0 ∗ semVal (kcell (c, 3)) 0 ∗ semVal (kcell (c, 4)) 0) := by
  unfold ownZ; rw [Pipeline.ownSems0_eq_of_list c osem [0, 1, 2, 3] (by decide) (by decide)]; rfl

theorem unscopedZ_eq (c : Dev nD) : (unscopedSems0 c : sProp 𝕄) = semVal (kcell (c, 0)) 0 := by
  unfold unscopedSems0; rw [bigSep_eq_bigSepL_of_eq [SemLoc.reg barS] (by decide) (by decide)]; rfl

/-- Together they are the five cells at zero. -/
theorem zeros_eq (c : Dev nD) : iprop(ownZ c ∗ unscopedSems0 c) ⊢ (bigSep Finset.univ fun k => semVal (kcell (c, k)) 0 : sProp 𝕄) := by
  rw [ownZ_eq, unscopedZ_eq, five]
  iintro ⟨H, H0⟩
  isplitl [H0]; · iexact H0
  iexact H

/-! ## The ghost state minted, dealt and opened -/

def allCells : Finset (GSem nD τ sig) := Finset.univ.map ⟨kcell, kcell_injective⟩

def tok (ck : Dev nD × Fin 5) : GSem nD τ sig × ℕ × Unit := (kcell ck, 0, ())
theorem tok_injective : Function.Injective tok := fun _ _ h => kcell_injective (congrArg Prod.fst h)
def allToks : Finset (GSem nD τ sig × ℕ × Unit) := Finset.univ.map ⟨tok, tok_injective⟩

def u₀ : UU := (initOf (Pipeline.cells cfgs cellOf_inj) (Pipeline.launchToks cfgs cellOf_inj), initOf allCells allToks)

/-- A device's five cells as minted: unopened, at their start, with their one token each. -/
def G (c : Dev nD) : sProp 𝕄 :=
  iprop((bigSep Finset.univ fun k : Fin 5 => roundState ER (rd m ρ) (kcell (c, k)) 0)
    ∗ (bigSep Finset.univ fun k : Fin 5 => reached ER (kcell (c, k)) 0)
    ∗ (bigSep Finset.univ fun k : Fin 5 => atPos ER (kcell (c, k)) 0 ∅ 0)
    ∗ (bigSep Finset.univ fun k : Fin 5 => dutyTok ER (kcell (c, k)) 0 ()))

def G' (c : Dev nD) : sProp 𝕄 := iprop(∃ K, ghost m ρ K c)

theorem mint : BI.own (ER (initOf allCells allToks)) ⊢ (|==> bigSep Finset.univ (G m ρ) : sProp 𝕄) := by
  have byDev (Φ : GSem nD τ sig → sProp 𝕄) :
      bigSep allCells Φ = bigSep Finset.univ fun c : Dev nD => bigSep Finset.univ fun k : Fin 5 => Φ (kcell (c, k)) := by
    unfold allCells; rw [bigSep_map, bigSep_univ_prod]; rfl
  have toksByDev : bigSep allToks (fun x => (dutyTok ER x.1 x.2.1 x.2.2 : sProp 𝕄))
      = bigSep Finset.univ fun c : Dev nD => bigSep Finset.univ fun k : Fin 5 => dutyTok ER (kcell (c, k)) 0 () := by
    unfold allToks; rw [bigSep_map, bigSep_univ_prod]; rfl
  refine (Rounds.fund ER (rd m ρ) allCells allToks).trans (BI.bupd_mono ?_)
  rw [byDev, byDev, byDev, toksByDev]
  unfold G
  simp only [bigSep_sep']
  exact BI.Entails.refl _

/-- Opening one device's cells. -/
theorem open_cells (c : Dev nD) :
    iprop(ownZ c ∗ unscopedSems0 c ∗ G m ρ c)
      ⊢ |={Set.univ}=> iprop((bigSep Finset.univ fun k => iprop(∃ κ : ℕ, cellInv ER (rd m ρ) κ (kcell (c, k))))
          ∗ (bigSep Finset.univ fun k => reached ER (kcell (c, k)) 0)
          ∗ (bigSep Finset.univ fun k => atPos ER (kcell (c, k)) 0 ∅ 0)
          ∗ (bigSep Finset.univ fun k => dutyTok ER (kcell (c, k)) 0 ()) : sProp 𝕄) := by
  have alloc : iprop((bigSep Finset.univ fun k : Fin 5 => semVal (kcell (c, k)) 0) ∗ bigSep Finset.univ fun k : Fin 5 => roundState ER (rd m ρ) (kcell (c, k)) 0)
      ⊢ (|={Set.univ}=> bigSep Finset.univ fun k => iprop(∃ κ : ℕ, cellInv ER (rd m ρ) κ (kcell (c, k))) : sProp 𝕄) := by
    rw [← bigSep_sep']
    exact (bigSep_mono fun k _ => (Rounds.body_intro ER (rd m ρ) (kcell (c, k))).trans inv_alloc).trans (bigSep_fupd _ _)
  unfold G
  iintro ⟨Ho, Hu, Hst, Hrest⟩
  ihave Hv := (zeros_eq (F := F) c) $$ [Ho Hu]
  · isplitl [Ho]; · iexact Ho
    iexact Hu
  imod alloc $$ [Hv Hst] with HI
  · isplitl [Hv]; · iexact Hv
    iexact Hst
  imodintro
  isplitl [HI]; · iexact HI
  iexact Hrest

/-- The tokens dealt out by who pays: each barrier token and each receipt token goes to the peer. -/
theorem toks_swapped :
    (bigSep Finset.univ fun c : Dev nD => bigSep Finset.univ fun k : Fin 5 => dutyTok ER (kcell (c, k)) 0 () : sProp 𝕄)
      ⊢ bigSep Finset.univ fun c : Dev nD => payToks c := by
  simp only [five]
  unfold payToks
  simp only [bigSep_sep']
  rw [bigSep_univ_equiv swap (fun c : Dev nD => (dutyTok ER (kcell (c, 0)) 0 () : sProp 𝕄)),
    bigSep_univ_equiv swap (fun c : Dev nD => (dutyTok ER (kcell (c, 3)) 0 () : sProp 𝕄)),
    bigSep_univ_equiv swap (fun c : Dev nD => (dutyTok ER (kcell (c, 4)) 0 () : sProp 𝕄))]
  iintro ⟨H0, H1, H2, H3, H4⟩
  isplitl [H0]; · iexact H0
  isplitl [H3]; · iexact H3
  isplitl [H4]; · iexact H4
  isplitl [H1]; · iexact H1
  iexact H2

/-- What every device may read off: all the invariants, and that all cells are open. -/
def shared (K : Dev nD × Fin 5 → ℕ) : sProp 𝕄 :=
  iprop((bigSep Finset.univ fun ck : Dev nD × Fin 5 => cellInv ER (rd m ρ) (K ck) (kcell ck))
    ∗ bigSep Finset.univ fun ck : Dev nD × Fin 5 => reached ER (kcell ck) 0)

instance shared_persistent (K : Dev nD × Fin 5 → ℕ) : BI.Persistent (shared m ρ K) := by unfold shared; infer_instance

theorem shared_inv (K : Dev nD × Fin 5 → ℕ) (ck : Dev nD × Fin 5) : shared m ρ K ⊢ (cellInv ER (rd m ρ) (K ck) (kcell ck) : sProp 𝕄) := by
  have h : (bigSep Finset.univ fun ck : Dev nD × Fin 5 => (cellInv ER (rd m ρ) (K ck) (kcell ck) : sProp 𝕄)) ⊢ cellInv ER (rd m ρ) (K ck) (kcell ck) :=
    bigSep_elim (Finset.mem_univ ck)
  unfold shared
  iintro ⟨H, -⟩
  iapply h; iexact H

theorem shared_open (K : Dev nD × Fin 5 → ℕ) (ck : Dev nD × Fin 5) : shared m ρ K ⊢ (reached ER (kcell ck) 0 : sProp 𝕄) := by
  have h : (bigSep Finset.univ fun ck : Dev nD × Fin 5 => (reached ER (kcell ck) 0 : sProp 𝕄)) ⊢ reached ER (kcell ck) 0 :=
    bigSep_elim (Finset.mem_univ ck)
  unfold shared
  iintro ⟨-, H⟩
  iapply h; iexact H

theorem ghost_of_shared (K : Dev nD × Fin 5 → ℕ) (c : Dev nD) :
    iprop(shared m ρ K ∗ (bigSep Finset.univ fun k => atPos ER (kcell (c, k)) 0 ∅ 0) ∗ payToks c) ⊢ G' m ρ c := by
  rw [five]
  unfold G' ghost invs opened posns
  iintro ⟨#H, Hat, Ht⟩
  iexists K
  isplitr
  · isplitr; · iapply (shared_inv m ρ K (c, 0)); iexact H
    isplitr; · iapply (shared_inv m ρ K (c, 1)); iexact H
    isplitr; · iapply (shared_inv m ρ K (c, 2)); iexact H
    isplitr; · iapply (shared_inv m ρ K (c, 3)); iexact H
    isplitr; · iapply (shared_inv m ρ K (c, 4)); iexact H
    isplitr; · iapply (shared_inv m ρ K (peer c, 0)); iexact H
    isplitr; · iapply (shared_inv m ρ K (peer c, 3)); iexact H
    iapply (shared_inv m ρ K (peer c, 4)); iexact H
  isplitr
  · isplitr; · iapply (shared_open m ρ K (peer c, 0)); iexact H
    isplitr; · iapply (shared_open m ρ K (c, 1)); iexact H
    isplitr; · iapply (shared_open m ρ K (c, 2)); iexact H
    isplitr; · iapply (shared_open m ρ K (c, 3)); iexact H
    iapply (shared_open m ρ K (c, 4)); iexact H
  isplitl [Hat]; · iexact Hat
  iexact Ht

/-- What the opened cells of all devices make: each device's ghost state, the tokens swapped. -/
theorem share_out :
    (bigSep Finset.univ fun c : Dev nD => iprop((bigSep Finset.univ fun k => iprop(∃ κ : ℕ, cellInv ER (rd m ρ) κ (kcell (c, k))))
          ∗ (bigSep Finset.univ fun k => reached ER (kcell (c, k)) 0)
          ∗ (bigSep Finset.univ fun k => atPos ER (kcell (c, k)) 0 ∅ 0)
          ∗ (bigSep Finset.univ fun k => dutyTok ER (kcell (c, k)) 0 ())) : sProp 𝕄)
      ⊢ bigSep Finset.univ (G' m ρ) := by
  simp only [bigSep_sep']
  rw [← bigSep_univ_prod (fun ck : Dev nD × Fin 5 => iprop(∃ κ : ℕ, cellInv ER (rd m ρ) κ (kcell ck))),
    ← bigSep_univ_prod (fun ck : Dev nD × Fin 5 => (reached ER (kcell ck) 0 : sProp 𝕄))]
  iintro ⟨HI, #HR, Hat, Ht⟩
  ihave HK := (BI.bigSep_exists_pi Finset.univ (fun (ck : Dev nD × Fin 5) (κ : ℕ) => (cellInv ER (rd m ρ) κ (kcell ck) : sProp 𝕄))) $$ HI
  icases HK with ⟨%K, #HI⟩
  ihave Ht' := (toks_swapped (F := F)) $$ Ht
  iapply (bigSep_with_persistent (R := shared m ρ K) fun c _ => ghost_of_shared m ρ K c)
  isplitr
  · unfold shared
    isplitr; · iexact HI
    iexact HR
  · simp only [bigSep_sep']
    isplitl [Hat]; · iexact Hat
    iexact Ht'

/-- Opening every device's cells at once. -/
theorem open_all : (bigSep Finset.univ fun c => iprop(ownZ c ∗ unscopedSems0 c ∗ G m ρ c) : sProp 𝕄) ⊢ |={Set.univ}=> bigSep Finset.univ (G' m ρ) :=
  ((bigSep_mono fun c _ => open_cells m ρ c).trans (bigSep_fupd _ _)).trans (BI.fupd_mono (share_out m ρ))

/-! ## What is owed at launch is what is credited -/

/-- What the peer owes cell `k` of a device at launch. -/
def due : Fin 5 → ℕ
  | 0 => 1 | 3 => N | 4 => N | _ => 0

theorem owed_cell (d c : Dev nD) (k : Fin 5) : O₀ d (kcell (c, k)) () = if d = peer c then due k else 0 := by
  have hp : c = peer d ↔ d = peer c := ⟨fun h => by rw [h, peer_peer], fun h => by rw [h, peer_peer]⟩
  unfold O₀ O₁
  simp only [Pi.add_apply, Finsupp.add_apply, tally_cell, hp]
  by_cases h : d = peer c
  · simp only [h, true_and, if_true]
    fin_cases k <;> simp [due]
  · simp only [h, false_and, if_false]

theorem launch_cell (c : Dev nD) (k : Fin 5) :
    tallyOn (kcell (c, k)) (launchCredit (Pipeline.owing O₀) 0 (kcell (c, k))) = (tallyAt (kcell (c, k)) () (due k) : CellTallies nD τ sig Unit) := by
  unfold tallyAt
  refine congrArg _ (Finsupp.ext fun u => ?_)
  cases u
  rw [Pipeline.launchCredit_owing, Finsupp.single_eq_same, Finset.sum_congr rfl fun d _ => owed_cell d c k,
    Finset.sum_ite_eq' Finset.univ (peer c) fun _ => due k, if_pos (Finset.mem_univ _)]

theorem credits_intro (c : Dev nD) : (Pipeline.launchCred O₀ c : sProp 𝕄) ⊢ credits c := by
  have h5 : (Pipeline.launchCred O₀ c : sProp 𝕄) ⊢ bigSep Finset.univ fun k : Fin 5 => cred (tallyAt (kcell (c, k)) () (due k)) := by
    unfold Pipeline.launchCred
    have h := bigSep_map (s := Finset.univ) (⟨csem, csem_injective⟩ : Fin 5 ↪ SemLoc sig)
      (Φ := fun sm => (cred (tallyOn ((c.tc : Thread nD τ), sm) (launchCredit (Pipeline.owing O₀) 0 ((c.tc : Thread nD τ), sm))) : sProp 𝕄))
    rw [bigSep_congr fun k _ => (congrArg cred (launch_cell c k)).symm]
    exact (bigSep_subset (Finset.subset_univ _)).trans (Entails.of_eq h)
  refine h5.trans ?_
  rw [five]
  unfold credits
  iintro ⟨H0, -, -, H3, H4⟩
  isplitl [H0]; · iexact H0
  isplitl [H3]; · iexact H3
  iexact H4

/-! ## Into the body and out of it -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hl, Hc, -, HG⟩
  ihave Hc' := (credits_intro (F := F) c) $$ Hc
  imodintro
  unfold start G'
  isplitl
  · isplitl [HG]; · iexact HG
    isplitl [Hc']; · iexact Hc'
    iexact Hl
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedZ_eq]
  unfold Φ₁ zeros
  iintro ⟨⟨H0, Hz⟩, Hr⟩
  isplitl [H0]; · iexact H0
  isplitl [Hz]; · iapply (Entails.of_eq (ownZ_eq (F := F) c).symm); iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- An array of the call after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory, all counters at zero: every fair execution on the four devices ends, with every array of the call
    at its final contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (mint m ρ) $$ HX with HG
      imodintro
      isplitl [HP]; · iexact HP
      iexact HG)
    (hglob := open_all m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- The argument array is never written. -/
theorem finalA_arg (c : Dev nD) : finalA m ρ c (0 : Fin 2) = (s₀ m ρ).mem (win0_0.arr.view.loc (c : Thread nD τ)) :=
  (dats (F := F) m ρ 0 c).arrAt_in (0 : Fin 2) rfl _

end Cert.MeanProof

end
-- ==== Proof.Run.Result.lean ====
/-
# What the run leaves in the result buffer

The kernel has one grid point and its two windows are whole arrays. So what the body reads of its argument is the
argument, and what the result array ends holding is the one block the body wrote.
-/
module

public import proofs.«01_k».proof.Proof.Run.Launch

@[expose] public section

noncomputable section

namespace Cert.MeanProof

open Cert.KernelIdeal Cert.KernelIdeal.Gen

open Idealize.ShloMosaic
open Idealize.ShloMosaic.TcCoe
open Idealize.SL.Sem

variable {F : FTy → Type} [FloatOps F] [Named F]

variable (m : (ℓ : Loc nD τ sig) → Buf (Elt F) ℓ) (ρ : Dev nD → PrngReg)

/-- The block a device reads is its whole argument. -/
theorem xstg_eq (c : Dev nD) : xstg m ρ c = m ((c.tc : Thread nD τ).loc main_arg0) :=
  Memref.read_access_unit_zero (Elt F) main_arg0
    (funext fun a => by fin_cases a <;> decide : (fun a => (win0_0.index (0 : Fin 1)) a * main_arg0.ty.shape.size a) = fun _ => 0)
    (fun a => by fin_cases a <;> decide) _

/-- The result array after the one grid point, read through its window, is what the body wrote. -/
theorem block_finalA (c : Dev nD) : (win0_1.blk (0 : Fin 1)).view.read (Elt F) (finalA m ρ c 1) = outAt m ρ c := by
  have step := (dats m ρ 0 c).arrAt_succ (1 : Fin 2) (0 : Fin 1)
  rw [if_pos (show (cfg0.win (1 : Fin 2)).flush (0 : Fin 1) = true from by decide)] at step
  exact (congrArg ((win0_1.blk (0 : Fin 1)).view.read (Elt F)) step).trans (View.read_write_univ _ _)

/-- That window is the whole array. -/
theorem finalA_result (c : Dev nD) : finalA m ρ c 1 = outAt m ρ c :=
  (Memref.read_access_unit_zero (Elt F) main_v1
    (funext fun a => by fin_cases a <;> decide : (fun a => (win0_1.index (0 : Fin 1)) a * main_v1.ty.shape.size a) = fun _ => 0)
    (fun a => by fin_cases a <;> decide) _).symm.trans (block_finalA m ρ c)

/-- The run in one statement: every execution ends, a device's argument is as it was, its result is `outAt`, and no
    semaphore is left counted. -/
theorem run_result :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_v1) = outAt m ρ c)
      ∧ r.2.sem = fun _ => 0 :=
  (θ_run _ _ _).mono
    (fun _ h => ⟨fun c => ⟨(h.1 c (0 : Fin 2)).trans (finalA_arg m ρ c), (h.1 c (1 : Fin 2)).trans (finalA_result m ρ c)⟩, h.2⟩)
    (run_main m ρ)

end Cert.MeanProof

end
-- ==== Proof.Run.Chunk.lean ====
/-
# What one chunk computes

Over the extended reals: the 6×128 chunk of a 768×768 block holds at `(a, b)` the sum of the block's row `128 a + b`
times 1/1536. The two chunks of a device are the upper and the lower half of its rows.
-/
module

public import proofs.«01_k».proof.Proof.Run.Result
public import Idealize.ShloMosaic.PureOps.IdealRules
public import Idealize.ShloMosaic.Lib.Pointwise.Reduce

@[expose] public section

noncomputable section

namespace Cert.MeanProof

open Cert.KernelIdeal Cert.KernelIdeal.Gen

open Idealize.ShloMosaic
open Idealize.ShloMosaic.TcCoe

/-- The factor the kernel scales by, one over the whole row length. -/
abbrev inv : EReal := ((1536⁻¹ : ℝ) : EReal)

/-- The kernel's named constant is that factor. -/
theorem named_inv : (Named.named (F := Ideal) κ "inv_cols" (φ := .f32) 0x3A2AAAAB#32 : EReal) = inv :=
  IdealRules.named_const.ideal_named_scalar κ "inv_cols" _ inv rfl

/-- One chunk at `(a, b)`. -/
theorem pay_apply (B : S768x768.Idx → EReal) (a : Fin 6) (b : Fin 128) :
    (k0_pay1 (F := Ideal) B (ix2 a b) : EReal) = (∑ k : Fin 768, B (ix2 (⟨128 * a.val + b.val, by omega⟩ : Fin 768) k)) * inv := by
  unfold k0_pay1
  rw [shapeCast_self]
  refine (shapeCast_apply _ _ (ix2 a b) (ix2 (⟨128 * a.val + b.val, by omega⟩ : Fin 768) (0 : Fin 1)) ?_).trans ?_
  · rw [Shape.rowMajor_val_two, Shape.rowMajor_val_two]
    show (128 * a.val + b.val) * 1 + 0 = a.val * 128 + b.val
    omega
  · refine congrArg₂ (fun u v : EReal => u * v) ?_ named_inv
    refine (shapeCast_apply _ _ _ (ix1 (⟨128 * a.val + b.val, by omega⟩ : Fin 768)) ?_).trans ?_
    · rw [Shape.rowMajor_val_one, Shape.rowMajor_val_two]
      show 128 * a.val + b.val = (128 * a.val + b.val) * 1 + 0
      omega
    · rw [shapeCast_self]
      exact Ideal.reduceAdd_r2_a1 _ _ _

/-- The second chunk is computed by the same formula. -/
theorem pay_same (B : S768x768.Idx → EReal) : k0_pay2 (F := Ideal) B = k0_pay1 (F := Ideal) B := rfl

/-- The sum of row `r` of a device's argument, times the factor. -/
def scaled (X : S1536x768.Idx → EReal) (r : Fin 1536) : EReal := (∑ k : Fin 768, X (ix2 r k)) * inv

/-- A 768-row block of the argument that starts at row `o`, read at `(a, b)`. -/
theorem block_at (X : S1536x768.Idx → EReal) (o : ℕ) (inb : ∀ a : Fin 2, (![o, 0] : Fin 2 → ℕ) a + S768x768.size a ≤ S1536x768.size a)
    (r : Fin 1536) (p : Fin 768) (k : Fin 768) (h : r.val = o + p.val) :
    (xM : Memref sig .tc .vmem S1536x768 .bf16).view.readAt (Elt Ideal) (Rect.unit (s := S1536x768) ![o, 0] S768x768.size inb).toLoadRect X (ix2 p k)
      = X (ix2 r k) := by
  refine congrArg X (funext fun d => Fin.ext ?_)
  match d with
  | ⟨0, _⟩ =>
    show o + 1 * p.val = r.val
    omega
  | ⟨1, _⟩ =>
    show 0 + 1 * k.val = k.val
    omega

variable (m : (ℓ : Loc nD τ sig) → Buf (Elt Ideal) ℓ) (ρ : Dev nD → PrngReg)

/-- Device `c`'s argument. -/
abbrev argOf (c : Dev nD) : S1536x768.Idx → EReal := m ((c.tc : Thread nD τ).loc main_arg0)

/-- The chunk computed from the rows that start at `o`, at one of those rows. -/
theorem chunk_row (X : S1536x768.Idx → EReal) (o : ℕ) (inb : ∀ a : Fin 2, (![o, 0] : Fin 2 → ℕ) a + S768x768.size a ≤ S1536x768.size a)
    (ho : o % 768 = 0) (r : Fin 1536) (hr : o ≤ r.val ∧ r.val < o + 768) :
    (row (F := Ideal) (k0_pay1 (F := Ideal) ((xM : Memref sig .tc .vmem S1536x768 .bf16).view.readAt (Elt Ideal)
      (Rect.unit (s := S1536x768) ![o, 0] S768x768.size inb).toLoadRect X)) r.val : EReal) = scaled X r := by
  refine (pay_apply _ _ _).trans (congrArg (fun u : EReal => u * inv) (Finset.sum_congr rfl fun k _ => ?_))
  refine block_at X o inb r _ k ?_
  show r.val = o + (128 * (r.val / 128 % 6) + r.val % 128)
  omega

theorem part0_row (c : Dev nD) (r : Fin 1536) (h : r.val < 768) : (row (part0 m ρ c) r.val : EReal) = scaled (argOf m c) r := by
  unfold part0
  rw [xstg_eq]
  exact chunk_row _ 0 _ rfl r ⟨Nat.zero_le _, by omega⟩

theorem part1_row (c : Dev nD) (r : Fin 1536) (h : ¬ r.val < 768) : (row (part1 m ρ c) r.val : EReal) = scaled (argOf m c) r := by
  unfold part1
  rw [xstg_eq, pay_same]
  exact chunk_row _ 768 _ rfl r ⟨by omega, by omega⟩

/-- A device's result at row `r`: its own half of the row and its peer's, each scaled. -/
theorem outAt_apply (c : Dev nD) (i : S1536x1.Idx) (r : Fin 1536) (hi : (i 0).val = r.val) :
    (outAt m ρ c i : EReal) = scaled (argOf m c) r + scaled (argOf m (peer c)) r := by
  unfold outAt joined
  rw [hi]
  by_cases h : r.val < 768
  · rw [if_pos h, ← part0_row m ρ c r h, ← part0_row m ρ (peer c) r h]
    rfl
  · rw [if_neg h, ← part1_row m ρ c r h, ← part1_row m ρ (peer c) r h]
    rfl

end Cert.MeanProof

end
-- ==== Proof.Run.Mean.lean ====
/-
# What the reference computes

Over the extended reals the reference's row `R` is the sum of the whole row of 1536 entries times 1/1536: the casts
between formats change nothing, the sum starts from zero, and dividing by 1536 is multiplying by its inverse.
-/
module

public import proofs.«01_k».proof.Proof.Run.Chunk
public import proofs.«01_k».proof.Proof.Gen.ReferenceIdeal.Run
public import Idealize.ShloMosaic.Lib.IdealHost

@[expose] public section

noncomputable section

namespace Cert.MeanProof

open Cert.ReferenceIdeal Cert.ReferenceIdeal.Gen

open Idealize.ShloMosaic

/-- The reference's divisor is 1536. -/
theorem divisor : Ideal.ofBits .f32 0x44C00000#32 = ((1536 : ℝ) : EReal) := by
  simp [Ideal.ofBits, Ideal.ieee, -EReal.coe_mul]
  norm_num

/-- The reference's result as a function of the whole argument. -/
def means (x : S3072x1536.Idx → EReal) : S3072x1.Idx → EReal :=
  extf (F := Ideal) .f32 (truncf .bf16 (Host.divf (broadcastInDim S3072x1 ![0] bcast_S3072_S3072x1_0
      (Host.reduceAdd (extf (F := Ideal) (φ := .bf16) .f32 x bitsLt_bf16_f32) (constant S_ .f32 0x00000000#32) reducesTo_S3072x1536_S3072_d1 h_S_))
    (broadcastInDim S3072x1 ![] bcast_S_S3072x1 (constant S_ .f32 0x44C00000#32))) bitsLt_bf16_f32) bitsLt_bf16_f32

theorem means_apply (x : S3072x1536.Idx → EReal) (i : S3072x1.Idx) (R : Fin 3072) (hi : (i 0).val = R.val) :
    means x i = (∑ k : Fin 1536, x (ix2 R k)) * inv := by
  have top : (broadcastInDim S3072x1 ![0] bcast_S3072_S3072x1_0
      (Host.reduceAdd (extf (F := Ideal) (φ := .bf16) .f32 x bitsLt_bf16_f32) (constant S_ .f32 0x00000000#32) reducesTo_S3072x1536_S3072_d1 h_S_) i : EReal)
      = ∑ k : Fin 1536, x (ix2 R k) := by
    refine (broadcastInDim_apply _ _ _ i (ix1 R) fun a => ?_).trans ?_
    · match a with
      | ⟨0, _⟩ => exact hi.symm
    · refine (Ideal.hostReduceAdd_r2_a1 reducesTo_S3072x1536_S3072_d1 x _ (ix1 R)).trans ?_
      exact (congrArg (fun z : EReal => z + _) Ideal.ofBits_zero_f32).trans (zero_add _)
  have bot : (broadcastInDim S3072x1 ![] bcast_S_S3072x1 (constant (F := Ideal) S_ .f32 0x44C00000#32) i : EReal) = ((1536 : ℝ) : EReal) := divisor
  refine (congrArg₂ Ideal.div top bot).trans ?_
  rw [Ideal.div_coe (by norm_num), one_div]

end Cert.MeanProof

end
-- ==== Proof.Run.Frames.lean ====
/-
# The three programs end and leave their argument alone

The kernel with its plain constant and the kernel with its named constant are the same text; the run is proved once,
for the named one over any float operations, and read here at bit patterns for both.
-/
module

public import proofs.«01_k».proof.Defs
public import proofs.«01_k».proof.Proof.Run.Result
public import proofs.«01_k».proof.Proof.Gen.Kernel
public import proofs.«01_k».proof.Proof.Gen.ReferenceIdeal.Run

@[expose] public section

noncomputable section

namespace Cert.MeanProof

open Idealize.ShloMosaic Idealize.SL.Sem

theorem frame_ideal : Cert.quiescent_KernelIdeal := fun m ρ _ =>
  (θ_run Cert.KernelIdeal.defs _ _).mono (fun _ h => ⟨fun c => (h.1 c).1, h.2⟩) (run_result m ρ)

/-- At bit patterns a named constant is read as the pattern it is printed with. -/
@[reducible] def plainNames : Named Bits := ⟨fun _ _ φ b => FloatOps.ofBits φ b⟩

section
attribute [local instance] plainNames

/-- So the two programs have the same kernel body under the one label, -/
theorem bodies_eq : Cert.KernelIdeal.defs₀ (F := Bits) = Cert.Kernel.defs₀ (F := Bits) := by
  unfold Cert.KernelIdeal.defs₀ Cert.Kernel.defs₀
  refine congrArg Defs.onTc (funext fun l => ?_)
  rcases l with ⟨_ | n, h⟩
  · rfl
  · exact absurd h (Nat.not_lt.2 (Nat.le_add_left _ _))

/-- and the same table of functions. -/
theorem tables_eq : Cert.KernelIdeal.defs (F := Bits) = Cert.Kernel.defs (F := Bits) :=
  congrArg (Pipeline.defs (Cert.Kernel.pcfgs (F := Bits))) bodies_eq

theorem frame_kernel : Cert.quiescent_Kernel := by
  intro m ρ _
  have h := run_result (F := Bits) m ρ
  rw [tables_eq] at h
  exact (θ_run Cert.Kernel.defs _ _).mono (fun _ h => ⟨fun c => (h.1 c).1, h.2⟩) h

end

/-- The reference declares no semaphore, so none is left counted. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

end Cert.MeanProof

end
-- ==== Proof.Run.Equation.lean ====
/-
# The two results are equal

Device `c` of the 2×2 mesh holds rows `1536 (c / 2) …` and columns `768 (c % 2) …` of the whole argument; its peer
holds the same rows and the other columns. So the two scaled half sums of a row add up to the scaled sum of the row,
whichever half comes first: scaling by a positive real distributes over any sum of extended reals.
-/
module

public import proofs.«01_k».proof.Defs
public import proofs.«01_k».proof.Proof.Run.Mean
public import proofs.«01_k».proof.Proof.Run.Frames

@[expose] public section

noncomputable section

namespace Cert.MeanProof

open Idealize.ShloMosaic Idealize.SL.Sem

/-- Scaling by the factor distributes over a sum. -/
theorem scale_add (a b : EReal) : (a + b) * inv = a * inv + b * inv :=
  EReal.right_distrib_of_nonneg_of_ne_top (EReal.coe_nonneg.mpr (by positivity)) (EReal.coe_ne_top _) a b

/-- A row of 1536 entries summed in its two halves. -/
theorem halves (f : Fin 1536 → EReal) :
    ∑ k : Fin 1536, f k = (∑ k : Fin 768, f ⟨k.val, by omega⟩) + ∑ k : Fin 768, f ⟨768 + k.val, by omega⟩ :=
  Fin.sum_univ_add (a := 768) (b := 768) f

/-- The block of the whole argument a device holds. -/
abbrev blockOf (x : Cert.ReferenceIdeal.S3072x1536.Idx → EReal) (c : Fin 4) : Cert.KernelIdeal.S1536x768.Idx → EReal :=
  Layout.blockN ⟨2, ![1536, 768]⟩ ⟨2, ![3072, 1536]⟩ (Layout.meshBlock [2, 2] ![[0], [1]] c) x

theorem blockOf_apply (x : Cert.ReferenceIdeal.S3072x1536.Idx → EReal) (c : Fin 4) (r : Fin 1536) (k : Fin 768) :
    blockOf x c (ix2 r k) = x (ix2 (⟨c.val / 2 * 1536 + r.val, by omega⟩ : Fin 3072) (⟨c.val % 2 * 768 + k.val, by omega⟩ : Fin 1536)) := by
  refine congrArg x (funext fun d => Fin.ext ?_)
  rw [Layout.TilesN.idx_val]
  match d with
  | ⟨0, _⟩ =>
    have h : Layout.meshLin [2, 2] c.val [0] = c.val / 2 := by revert c; decide
    exact congrArg (fun n => n * 1536 + r.val) h
  | ⟨1, _⟩ =>
    have h : Layout.meshLin [2, 2] c.val [1] = c.val % 2 := by revert c; decide
    exact congrArg (fun n => n * 768 + k.val) h

/-- A device's half sum, in terms of the whole argument. -/
theorem scaled_blockOf (x : Cert.ReferenceIdeal.S3072x1536.Idx → EReal) (c : Fin 4) (r : Fin 1536) (R : Fin 3072) (y : ℕ) (hy : y < 2)
    (hc : c.val % 2 = y) (hR : R.val = c.val / 2 * 1536 + r.val) :
    scaled (blockOf x c) r = (∑ k : Fin 768, x (ix2 R (⟨y * 768 + k.val, by omega⟩ : Fin 1536))) * inv := by
  subst hc
  exact congrArg (fun u : EReal => u * inv) (Finset.sum_congr rfl fun k _ =>
    (blockOf_apply x c r k).trans (congrArg (fun R => x (ix2 R _)) (Fin.ext hR.symm)))

/-- A device's two scaled half sums of a row are the scaled sum of the whole row. -/
theorem two_halves (x : Cert.ReferenceIdeal.S3072x1536.Idx → EReal) (c : Fin 4) (r : Fin 1536) (R : Fin 3072) (hR : R.val = c.val / 2 * 1536 + r.val) :
    scaled (blockOf x c) r + scaled (blockOf x (peer c)) r = (∑ k : Fin 1536, x (ix2 R k)) * inv := by
  have hp : (peer c).val = 2 * (c.val / 2) + 1 - c.val % 2 := rfl
  have whole : (∑ k : Fin 1536, x (ix2 R k)) * inv
      = (∑ k : Fin 768, x (ix2 R (⟨0 * 768 + k.val, by omega⟩ : Fin 1536))) * inv
        + (∑ k : Fin 768, x (ix2 R (⟨1 * 768 + k.val, by omega⟩ : Fin 1536))) * inv := by
    rw [halves, scale_add]
    simp only [Nat.zero_mul, Nat.zero_add, Nat.one_mul]
  rw [whole]
  rcases Nat.mod_two_eq_zero_or_one c.val with h | h
  · rw [scaled_blockOf x c r R 0 (by omega) h hR, scaled_blockOf x (peer c) r R 1 (by omega) (by omega) (by omega)]
  · rw [scaled_blockOf x c r R 1 (by omega) h hR, scaled_blockOf x (peer c) r R 0 (by omega) (by omega) (by omega), add_comm]

/-- The kernel's result on a device is its block of the reference's result. -/
theorem result_block (m : (ℓ : Loc Cert.KernelIdeal.nD Cert.KernelIdeal.τ Cert.KernelIdeal.sig) → Buf (Elt Ideal) ℓ)
    (ρ : Dev Cert.KernelIdeal.nD → PrngReg) (x : Cert.ReferenceIdeal.S3072x1536.Idx → EReal) (hx : ∀ c, argOf m c = blockOf x c) (c : Fin 4) :
    outAt m ρ c = Layout.blockN ⟨2, ![1536, 1]⟩ ⟨2, ![3072, 1]⟩ (Layout.meshBlock [2, 2] ![[0], []] c) (means x) := by
  funext i
  have hr : (i 0).val < 1536 := (i 0).isLt
  have h : Layout.meshLin [2, 2] c.val [0] = c.val / 2 := by revert c; decide
  refine (outAt_apply m ρ c i ⟨(i 0).val, hr⟩ rfl).trans ?_
  rw [hx c, hx (peer c), two_halves x c ⟨(i 0).val, hr⟩ ⟨c.val / 2 * 1536 + (i 0).val, by omega⟩ rfl]
  exact (means_apply x _ ⟨c.val / 2 * 1536 + (i 0).val, by omega⟩ (congrArg (fun n => n * 1536 + (i 0).val) h)).symm

/-- Over the extended reals the kernel returns the reference's result, each device its block. -/
theorem algebraic : Cert.algebraic_KernelIdeal_ReferenceIdeal := fun m ρ m' ρ' _ agree =>
  ⟨means (m' (((0 : Dev Cert.ReferenceIdeal.nD).tc : Thread _ Cert.ReferenceIdeal.τ).loc Cert.ReferenceIdeal.main_arg0)),
    (θ_run Cert.KernelIdeal.defs _ _).mono (fun _ h c => ⟨((h.1 c).2).trans (result_block m ρ _ agree c), (h.1 c).1⟩) (run_result m ρ),
    (θ_run Cert.ReferenceIdeal.defs _ _).mono (fun _ h => h 0) (Cert.ReferenceIdeal.Value.run m' ρ')⟩

/-- The named constant is the value the certificate gives it. -/
theorem preserves : Cert.preserves_Kernel_KernelIdeal :=
  IdealRules.named_const.statement Cert.KernelIdeal.κ "inv_cols" .f32 0x3A2AAAAB#32 inv rfl

end Cert.MeanProof

end
-- ==== Proof.lean ====
/-
# The certificate

The kernel with its printed constant, the kernel with that constant named, and the reference each end with their
argument unchanged (`Run/Frames.lean`, over the run in `Run/Launch.lean`); and over the extended reals each device's
result is its block of the row means (`Run/Equation.lean`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run.Equation
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
    Cert.MeanProof.frame_kernel, Cert.MeanProof.frame_ideal, Cert.MeanProof.frame_reference,
    Cert.MeanProof.preserves, Cert.MeanProof.algebraic⟩

end Cert.Proof

end
